-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1 : Shape := ⟨1, ![1]⟩
abbrev S39x40x192x128 : Shape := ⟨4, ![39, 40, 192, 128]⟩
abbrev S39x192x128 : Shape := ⟨3, ![39, 192, 128]⟩
abbrev S192x128 : Shape := ⟨2, ![192, 128]⟩
abbrev S741x192x128 : Shape := ⟨3, ![741, 192, 128]⟩
abbrev S39x40x8x128 : Shape := ⟨4, ![39, 40, 8, 128]⟩
abbrev S39x8x128 : Shape := ⟨3, ![39, 8, 128]⟩
abbrev S8x128 : Shape := ⟨2, ![8, 128]⟩
abbrev S741x8x128 : Shape := ⟨3, ![741, 8, 128]⟩
abbrev S1x8x128 : Shape := ⟨3, ![1, 8, 128]⟩
abbrev S1x1x8x128 : Shape := ⟨4, ![1, 1, 8, 128]⟩
abbrev S16x128 : Shape := ⟨2, ![16, 128]⟩

abbrev nBuf : Space → Nat
  | .hbm => 5
  | .vmem => 9
  | .smem => 1
  | _ => 0

abbrev bufTy : (tb : Table) → Fin (tcTables nBuf tb) → BufTy
  | .hbm, ⟨0, _⟩ => ⟨S1, .f32⟩
  | .hbm, ⟨1, _⟩ => ⟨S39x40x192x128, .i32⟩
  | .hbm, ⟨2, _⟩ => ⟨S39x192x128, .f32⟩
  | .hbm, ⟨3, _⟩ => ⟨S192x128, .f32⟩
  | .hbm, ⟨4, _⟩ => ⟨S741x192x128, .f32⟩
  | .local _ .vmem, ⟨0, _⟩ => ⟨S39x40x8x128, .i32⟩
  | .local _ .vmem, ⟨1, _⟩ => ⟨S39x40x8x128, .i32⟩
  | .local _ .vmem, ⟨2, _⟩ => ⟨S39x8x128, .f32⟩
  | .local _ .vmem, ⟨3, _⟩ => ⟨S39x8x128, .f32⟩
  | .local _ .vmem, ⟨4, _⟩ => ⟨S8x128, .f32⟩
  | .local _ .vmem, ⟨5, _⟩ => ⟨S8x128, .f32⟩
  | .local _ .vmem, ⟨6, _⟩ => ⟨S741x8x128, .f32⟩
  | .local _ .vmem, ⟨7, _⟩ => ⟨S741x8x128, .f32⟩
  | .local _ .vmem, ⟨8, _⟩ => ⟨S39x8x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![24], ![false]⟩

@[reducible] def k0_t1_loop : Scf.Loop 32 :=
  let c1_i32 : BitVec 32 := 1#32
  let c38_i32 : BitVec 32 := 38#32
  let v550 : BitVec 32 := Scalar.addi c1_i32 c38_i32
  let c1_i32_510 : BitVec 32 := 1#32
  ⟨c1_i32, v550, c1_i32_510⟩
def k0_off1 (k0_t1 : Fin k0_t1_loop.trips) : Fin 4 → Nat :=
  let c0_1159 : Index := 0#32
  let c1_i32 : BitVec 32 := 1#32
  let c1_i32_510 : BitVec 32 := 1#32
  let arg7 : BitVec 32 := Scf.iv c1_i32 c1_i32_510 k0_t1
  let v1697 : Index := Scalar.indexCast arg7
  let c0_1160 : Index := 0#32
  let c0_1161 : Index := 0#32
  ![0, v1697.toNat, 0, 0]
def k0_off2 (k0_t1 : Fin k0_t1_loop.trips) : Fin 4 → Nat :=
  let c1_i32 : BitVec 32 := 1#32
  let c1_i32_510 : BitVec 32 := 1#32
  let arg7 : BitVec 32 := Scf.iv c1_i32 c1_i32_510 k0_t1
  let v1700 : Index := Scalar.indexCast arg7
  let c0_1162 : Index := 0#32
  let c0_1163 : Index := 0#32
  let c0_1164 : Index := 0#32
  ![v1700.toNat, 0, 0, 0]
def k0_off3 (k0_t1 : Fin k0_t1_loop.trips) : Fin 3 → Nat :=
  let c1_i32 : BitVec 32 := 1#32
  let c1_i32_510 : BitVec 32 := 1#32
  let arg7 : BitVec 32 := Scf.iv c1_i32 c1_i32_510 k0_t1
  let v1787 : Index := Scalar.indexCast arg7
  let c0_1197 : Index := 0#32
  let c0_1198 : Index := 0#32
  ![v1787.toNat, 0, 0]
def k0_off4 (k0_t1 : Fin k0_t1_loop.trips) : Fin 3 → Nat :=
  let c_m1_i32 : BitVec 32 := 4294967295#32
  let c1_i32 : BitVec 32 := 1#32
  let c1_i32_510 : BitVec 32 := 1#32
  let arg7 : BitVec 32 := Scf.iv c1_i32 c1_i32_510 k0_t1
  let v1791 : BitVec 32 := Scalar.addi c_m1_i32 arg7
  let v1792 : Index := Scalar.indexCast v1791
  let c0_1199 : Index := 0#32
  let c0_1200 : Index := 0#32
  ![v1792.toNat, 0, 0]
@[reducible] def k0_t2_loop : Scf.Loop 32 :=
  let c2_i32 : BitVec 32 := 2#32
  let c37_i32 : BitVec 32 := 37#32
  let v554 : BitVec 32 := Scalar.addi c2_i32 c37_i32
  let c1_i32_515 : BitVec 32 := 1#32
  ⟨c2_i32, v554, c1_i32_515⟩
def k0_off5 (k0_t2 : Fin k0_t2_loop.trips) : Fin 4 → Nat :=
  let c1_1159 : Index := 1#32
  let c2_i32 : BitVec 32 := 2#32
  let c1_i32_515 : BitVec 32 := 1#32
  let arg7 : BitVec 32 := Scf.iv c2_i32 c1_i32_515 k0_t2
  let v1697 : Index := Scalar.indexCast arg7
  let c0_1160 : Index := 0#32
  let c0_1161 : Index := 0#32
  ![1, v1697.toNat, 0, 0]
def k0_off6 (k0_t2 : Fin k0_t2_loop.trips) : Fin 4 → Nat :=
  let c2_i32 : BitVec 32 := 2#32
  let c1_i32_515 : BitVec 32 := 1#32
  let arg7 : BitVec 32 := Scf.iv c2_i32 c1_i32_515 k0_t2
  let v1700 : Index := Scalar.indexCast arg7
  let c1_1162 : Index := 1#32
  let c0_1163 : Index := 0#32
  let c0_1164 : Index := 0#32
  ![v1700.toNat, 1, 0, 0]
def k0_off7 (k0_t2 : Fin k0_t2_loop.trips) : Fin 3 → Nat :=
  let c2_i32 : BitVec 32 := 2#32
  let c1_i32_515 : BitVec 32 := 1#32
  let arg7 : BitVec 32 := Scf.iv c2_i32 c1_i32_515 k0_t2
  let v1787 : Index := Scalar.indexCast arg7
  let c0_1197 : Index := 0#32
  let c0_1198 : Index := 0#32
  ![v1787.toNat, 0, 0]
def k0_off8 (k0_t2 : Fin k0_t2_loop.trips) : Fin 3 → Nat :=
  let c36_i32_1199 : BitVec 32 := 36#32
  let c2_i32 : BitVec 32 := 2#32
  let c1_i32_515 : BitVec 32 := 1#32
  let arg7 : BitVec 32 := Scf.iv c2_i32 c1_i32_515 k0_t2
  let v1791 : BitVec 32 := Scalar.addi c36_i32_1199 arg7
  let v1792 : Index := Scalar.indexCast v1791
  let c0_1200 : Index := 0#32
  let c0_1201 : Index := 0#32
  ![v1792.toNat, 0, 0]
@[reducible] def k0_t3_loop : Scf.Loop 32 :=
  let c3_i32 : BitVec 32 := 3#32
  let c36_i32 : BitVec 32 := 36#32
  let v558 : BitVec 32 := Scalar.addi c3_i32 c36_i32
  let c1_i32_520 : BitVec 32 := 1#32
  ⟨c3_i32, v558, c1_i32_520⟩
def k0_off9 (k0_t3 : Fin k0_t3_loop.trips) : Fin 4 → Nat :=
  let c2_1159 : Index := 2#32
  let c3_i32 : BitVec 32 := 3#32
  let c1_i32_520 : BitVec 32 := 1#32
  let arg7 : BitVec 32 := Scf.iv c3_i32 c1_i32_520 k0_t3
  let v1697 : Index := Scalar.indexCast arg7
  let c0_1160 : Index := 0#32
  let c0_1161 : Index := 0#32
  ![2, v1697.toNat, 0, 0]
def k0_off10 (k0_t3 : Fin k0_t3_loop.trips) : Fin 4 → Nat :=
  let c3_i32 : BitVec 32 := 3#32
  let c1_i32_520 : BitVec 32 := 1#32
  let arg7 : BitVec 32 := Scf.iv c3_i32 c1_i32_520 k0_t3
  let v1700 : Index := Scalar.indexCast arg7
  let c2_1162 : Index := 2#32
  let c0_1163 : Index := 0#32
  let c0_1164 : Index := 0#32
  ![v1700.toNat, 2, 0, 0]
def k0_off11 (k0_t3 : Fin k0_t3_loop.trips) : Fin 3 → Nat :=
  let c3_i32 : BitVec 32 := 3#32
  let c1_i32_520 : BitVec 32 := 1#32
  let arg7 : BitVec 32 := Scf.iv c3_i32 c1_i32_520 k0_t3
  let v1787 : Index := Scalar.indexCast arg7
  let c0_1197 : Index := 0#32
  let c0_1198 : Index := 0#32
  ![v1787.toNat, 0, 0]
def k0_off12 (k0_t3 : Fin k0_t3_loop.trips) : Fin 3 → Nat :=
  let c72_i32 : BitVec 32 := 72#32
  let c3_i32 : BitVec 32 := 3#32
  let c1_i32_520 : BitVec 32 := 1#32
  let arg7 : BitVec 32 := Scf.iv c3_i32 c1_i32_520 k0_t3
  let v1791 : BitVec 32 := Scalar.addi c72_i32 arg7
  let v1792 : Index := Scalar.indexCast v1791
  let c0_1199 : Index := 0#32
  let c0_1200 : Index := 0#32
  ![v1792.toNat, 0, 0]
@[reducible] def k0_t4_loop : Scf.Loop 32 :=
  let c4_i32 : BitVec 32 := 4#32
  let c35_i32 : BitVec 32 := 35#32
  let v562 : BitVec 32 := Scalar.addi c4_i32 c35_i32
  let c1_i32_525 : BitVec 32 := 1#32
  ⟨c4_i32, v562, c1_i32_525⟩
def k0_off13 (k0_t4 : Fin k0_t4_loop.trips) : Fin 4 → Nat :=
  let c3_1159 : Index := 3#32
  let c4_i32 : BitVec 32 := 4#32
  let c1_i32_525 : BitVec 32 := 1#32
  let arg7 : BitVec 32 := Scf.iv c4_i32 c1_i32_525 k0_t4
  let v1697 : Index := Scalar.indexCast arg7
  let c0_1160 : Index := 0#32
  let c0_1161 : Index := 0#32
  ![3, v1697.toNat, 0, 0]
def k0_off14 (k0_t4 : Fin k0_t4_loop.trips) : Fin 4 → Nat :=
  let c4_i32 : BitVec 32 := 4#32
  let c1_i32_525 : BitVec 32 := 1#32
  let arg7 : BitVec 32 := Scf.iv c4_i32 c1_i32_525 k0_t4
  let v1700 : Index := Scalar.indexCast arg7
  let c3_1162 : Index := 3#32
  let c0_1163 : Index := 0#32
  let c0_1164 : Index := 0#32
  ![v1700.toNat, 3, 0, 0]
def k0_off15 (k0_t4 : Fin k0_t4_loop.trips) : Fin 3 → Nat :=
  let c4_i32 : BitVec 32 := 4#32
  let c1_i32_525 : BitVec 32 := 1#32
  let arg7 : BitVec 32 := Scf.iv c4_i32 c1_i32_525 k0_t4
  let v1787 : Index := Scalar.indexCast arg7
  let c0_1197 : Index := 0#32
  let c0_1198 : Index := 0#32
  ![v1787.toNat, 0, 0]
def k0_off16 (k0_t4 : Fin k0_t4_loop.trips) : Fin 3 → Nat :=
  let c107_i32 : BitVec 32 := 107#32
  let c4_i32 : BitVec 32 := 4#32
  let c1_i32_525 : BitVec 32 := 1#32
  let arg7 : BitVec 32 := Scf.iv c4_i32 c1_i32_525 k0_t4
  let v1791 : BitVec 32 := Scalar.addi c107_i32 arg7
  let v1792 : Index := Scalar.indexCast v1791
  let c0_1199 : Index := 0#32
  let c0_1200 : Index := 0#32
  ![v1792.toNat, 0, 0]
@[reducible] def k0_t5_loop : Scf.Loop 32 :=
  let c5_i32 : BitVec 32 := 5#32
  let c34_i32 : BitVec 32 := 34#32
  let v566 : BitVec 32 := Scalar.addi c5_i32 c34_i32
  let c1_i32_530 : BitVec 32 := 1#32
  ⟨c5_i32, v566, c1_i32_530⟩
def k0_off17 (k0_t5 : Fin k0_t5_loop.trips) : Fin 4 → Nat :=
  let c4_1159 : Index := 4#32
  let c5_i32 : BitVec 32 := 5#32
  let c1_i32_530 : BitVec 32 := 1#32
  let arg7 : BitVec 32 := Scf.iv c5_i32 c1_i32_530 k0_t5
  let v1697 : Index := Scalar.indexCast arg7
  let c0_1160 : Index := 0#32
  let c0_1161 : Index := 0#32
  ![4, v1697.toNat, 0, 0]
def k0_off18 (k0_t5 : Fin k0_t5_loop.trips) : Fin 4 → Nat :=
  let c5_i32 : BitVec 32 := 5#32
  let c1_i32_530 : BitVec 32 := 1#32
  let arg7 : BitVec 32 := Scf.iv c5_i32 c1_i32_530 k0_t5
  let v1700 : Index := Scalar.indexCast arg7
  let c4_1162 : Index := 4#32
  let c0_1163 : Index := 0#32
  let c0_1164 : Index := 0#32
  ![v1700.toNat, 4, 0, 0]
def k0_off19 (k0_t5 : Fin k0_t5_loop.trips) : Fin 3 → Nat :=
  let c5_i32 : BitVec 32 := 5#32
  let c1_i32_530 : BitVec 32 := 1#32
  let arg7 : BitVec 32 := Scf.iv c5_i32 c1_i32_530 k0_t5
  let v1787 : Index := Scalar.indexCast arg7
  let c0_1197 : Index := 0#32
  let c0_1198 : Index := 0#32
  ![v1787.toNat, 0, 0]
def k0_off20 (k0_t5 : Fin k0_t5_loop.trips) : Fin 3 → Nat :=
  let c141_i32 : BitVec 32 := 141#32
  let c5_i32 : BitVec 32 := 5#32
  let c1_i32_530 : BitVec 32 := 1#32
  let arg7 : BitVec 32 := Scf.iv c5_i32 c1_i32_530 k0_t5
  let v1791 : BitVec 32 := Scalar.addi c141_i32 arg7
  let v1792 : Index := Scalar.indexCast v1791
  let c0_1199 : Index := 0#32
  let c0_1200 : Index := 0#32
  ![v1792.toNat, 0, 0]
@[reducible] def k0_t6_loop : Scf.Loop 32 :=
  let c6_i32 : BitVec 32 := 6#32
  let c33_i32 : BitVec 32 := 33#32
  let v570 : BitVec 32 := Scalar.addi c6_i32 c33_i32
  let c1_i32_535 : BitVec 32 := 1#32
  ⟨c6_i32, v570, c1_i32_535⟩
def k0_off21 (k0_t6 : Fin k0_t6_loop.trips) : Fin 4 → Nat :=
  let c5_1159 : Index := 5#32
  let c6_i32 : BitVec 32 := 6#32
  let c1_i32_535 : BitVec 32 := 1#32
  let arg7 : BitVec 32 := Scf.iv c6_i32 c1_i32_535 k0_t6
  let v1697 : Index := Scalar.indexCast arg7
  let c0_1160 : Index := 0#32
  let c0_1161 : Index := 0#32
  ![5, v1697.toNat, 0, 0]
def k0_off22 (k0_t6 : Fin k0_t6_loop.trips) : Fin 4 → Nat :=
  let c6_i32 : BitVec 32 := 6#32
  let c1_i32_535 : BitVec 32 := 1#32
  let arg7 : BitVec 32 := Scf.iv c6_i32 c1_i32_535 k0_t6
  let v1700 : Index := Scalar.indexCast arg7
  let c5_1162 : Index := 5#32
  let c0_1163 : Index := 0#32
  let c0_1164 : Index := 0#32
  ![v1700.toNat, 5, 0, 0]
def k0_off23 (k0_t6 : Fin k0_t6_loop.trips) : Fin 3 → Nat :=
  let c6_i32 : BitVec 32 := 6#32
  let c1_i32_535 : BitVec 32 := 1#32
  let arg7 : BitVec 32 := Scf.iv c6_i32 c1_i32_535 k0_t6
  let v1787 : Index := Scalar.indexCast arg7
  let c0_1197 : Index := 0#32
  let c0_1198 : Index := 0#32
  ![v1787.toNat, 0, 0]
def k0_off24 (k0_t6 : Fin k0_t6_loop.trips) : Fin 3 → Nat :=
  let c174_i32 : BitVec 32 := 174#32
  let c6_i32 : BitVec 32 := 6#32
  let c1_i32_535 : BitVec 32 := 1#32
  let arg7 : BitVec 32 := Scf.iv c6_i32 c1_i32_535 k0_t6
  let v1791 : BitVec 32 := Scalar.addi c174_i32 arg7
  let v1792 : Index := Scalar.indexCast v1791
  let c0_1199 : Index := 0#32
  let c0_1200 : Index := 0#32
  ![v1792.toNat, 0, 0]
@[reducible] def k0_t7_loop : Scf.Loop 32 :=
  let c7_i32 : BitVec 32 := 7#32
  let c32_i32 : BitVec 32 := 32#32
  let v574 : BitVec 32 := Scalar.addi c7_i32 c32_i32
  let c1_i32_540 : BitVec 32 := 1#32
  ⟨c7_i32, v574, c1_i32_540⟩
def k0_off25 (k0_t7 : Fin k0_t7_loop.trips) : Fin 4 → Nat :=
  let c6_1159 : Index := 6#32
  let c7_i32 : BitVec 32 := 7#32
  let c1_i32_540 : BitVec 32 := 1#32
  let arg7 : BitVec 32 := Scf.iv c7_i32 c1_i32_540 k0_t7
  let v1697 : Index := Scalar.indexCast arg7
  let c0_1160 : Index := 0#32
  let c0_1161 : Index := 0#32
  ![6, v1697.toNat, 0, 0]
def k0_off26 (k0_t7 : Fin k0_t7_loop.trips) : Fin 4 → Nat :=
  let c7_i32 : BitVec 32 := 7#32
  let c1_i32_540 : BitVec 32 := 1#32
  let arg7 : BitVec 32 := Scf.iv c7_i32 c1_i32_540 k0_t7
  let v1700 : Index := Scalar.indexCast arg7
  let c6_1162 : Index := 6#32
  let c0_1163 : Index := 0#32
  let c0_1164 : Index := 0#32
  ![v1700.toNat, 6, 0, 0]
def k0_off27 (k0_t7 : Fin k0_t7_loop.trips) : Fin 3 → Nat :=
  let c7_i32 : BitVec 32 := 7#32
  let c1_i32_540 : BitVec 32 := 1#32
  let arg7 : BitVec 32 := Scf.iv c7_i32 c1_i32_540 k0_t7
  let v1787 : Index := Scalar.indexCast arg7
  let c0_1197 : Index := 0#32
  let c0_1198 : Index := 0#32
  ![v1787.toNat, 0, 0]
def k0_off28 (k0_t7 : Fin k0_t7_loop.trips) : Fin 3 → Nat :=
  let c206_i32 : BitVec 32 := 206#32
  let c7_i32 : BitVec 32 := 7#32
  let c1_i32_540 : BitVec 32 := 1#32
  let arg7 : BitVec 32 := Scf.iv c7_i32 c1_i32_540 k0_t7
  let v1791 : BitVec 32 := Scalar.addi c206_i32 arg7
  let v1792 : Index := Scalar.indexCast v1791
  let c0_1199 : Index := 0#32
  let c0_1200 : Index := 0#32
  ![v1792.toNat, 0, 0]
@[reducible] def k0_t8_loop : Scf.Loop 32 :=
  let c8_i32 : BitVec 32 := 8#32
  let c31_i32 : BitVec 32 := 31#32
  let v578 : BitVec 32 := Scalar.addi c8_i32 c31_i32
  let c1_i32_545 : BitVec 32 := 1#32
  ⟨c8_i32, v578, c1_i32_545⟩
def k0_off29 (k0_t8 : Fin k0_t8_loop.trips) : Fin 4 → Nat :=
  let c7_1159 : Index := 7#32
  let c8_i32 : BitVec 32 := 8#32
  let c1_i32_545 : BitVec 32 := 1#32
  let arg7 : BitVec 32 := Scf.iv c8_i32 c1_i32_545 k0_t8
  let v1697 : Index := Scalar.indexCast arg7
  let c0_1160 : Index := 0#32
  let c0_1161 : Index := 0#32
  ![7, v1697.toNat, 0, 0]
def k0_off30 (k0_t8 : Fin k0_t8_loop.trips) : Fin 4 → Nat :=
  let c8_i32 : BitVec 32 := 8#32
  let c1_i32_545 : BitVec 32 := 1#32
  let arg7 : BitVec 32 := Scf.iv c8_i32 c1_i32_545 k0_t8
  let v1700 : Index := Scalar.indexCast arg7
  let c7_1162 : Index := 7#32
  let c0_1163 : Index := 0#32
  let c0_1164 : Index := 0#32
  ![v1700.toNat, 7, 0, 0]
def k0_off31 (k0_t8 : Fin k0_t8_loop.trips) : Fin 3 → Nat :=
  let c8_i32 : BitVec 32 := 8#32
  let c1_i32_545 : BitVec 32 := 1#32
  let arg7 : BitVec 32 := Scf.iv c8_i32 c1_i32_545 k0_t8
  let v1787 : Index := Scalar.indexCast arg7
  let c0_1197 : Index := 0#32
  let c0_1198 : Index := 0#32
  ![v1787.toNat, 0, 0]
def k0_off32 (k0_t8 : Fin k0_t8_loop.trips) : Fin 3 → Nat :=
  let c237_i32 : BitVec 32 := 237#32
  let c8_i32 : BitVec 32 := 8#32
  let c1_i32_545 : BitVec 32 := 1#32
  let arg7 : BitVec 32 := Scf.iv c8_i32 c1_i32_545 k0_t8
  let v1791 : BitVec 32 := Scalar.addi c237_i32 arg7
  let v1792 : Index := Scalar.indexCast v1791
  let c0_1199 : Index := 0#32
  let c0_1200 : Index := 0#32
  ![v1792.toNat, 0, 0]
@[reducible] def k0_t9_loop : Scf.Loop 32 :=
  let c9_i32 : BitVec 32 := 9#32
  let c30_i32 : BitVec 32 := 30#32
  let v582 : BitVec 32 := Scalar.addi c9_i32 c30_i32
  let c1_i32_550 : BitVec 32 := 1#32
  ⟨c9_i32, v582, c1_i32_550⟩
def k0_off33 (k0_t9 : Fin k0_t9_loop.trips) : Fin 4 → Nat :=
  let c8_1159 : Index := 8#32
  let c9_i32 : BitVec 32 := 9#32
  let c1_i32_550 : BitVec 32 := 1#32
  let arg7 : BitVec 32 := Scf.iv c9_i32 c1_i32_550 k0_t9
  let v1697 : Index := Scalar.indexCast arg7
  let c0_1160 : Index := 0#32
  let c0_1161 : Index := 0#32
  ![8, v1697.toNat, 0, 0]
def k0_off34 (k0_t9 : Fin k0_t9_loop.trips) : Fin 4 → Nat :=
  let c9_i32 : BitVec 32 := 9#32
  let c1_i32_550 : BitVec 32 := 1#32
  let arg7 : BitVec 32 := Scf.iv c9_i32 c1_i32_550 k0_t9
  let v1700 : Index := Scalar.indexCast arg7
  let c8_1162 : Index := 8#32
  let c0_1163 : Index := 0#32
  let c0_1164 : Index := 0#32
  ![v1700.toNat, 8, 0, 0]
def k0_off35 (k0_t9 : Fin k0_t9_loop.trips) : Fin 3 → Nat :=
  let c9_i32 : BitVec 32 := 9#32
  let c1_i32_550 : BitVec 32 := 1#32
  let arg7 : BitVec 32 := Scf.iv c9_i32 c1_i32_550 k0_t9
  let v1787 : Index := Scalar.indexCast arg7
  let c0_1197 : Index := 0#32
  let c0_1198 : Index := 0#32
  ![v1787.toNat, 0, 0]
def k0_off36 (k0_t9 : Fin k0_t9_loop.trips) : Fin 3 → Nat :=
  let c267_i32 : BitVec 32 := 267#32
  let c9_i32 : BitVec 32 := 9#32
  let c1_i32_550 : BitVec 32 := 1#32
  let arg7 : BitVec 32 := Scf.iv c9_i32 c1_i32_550 k0_t9
  let v1791 : BitVec 32 := Scalar.addi c267_i32 arg7
  let v1792 : Index := Scalar.indexCast v1791
  let c0_1199 : Index := 0#32
  let c0_1200 : Index := 0#32
  ![v1792.toNat, 0, 0]
@[reducible] def k0_t10_loop : Scf.Loop 32 :=
  let c10_i32 : BitVec 32 := 10#32
  let c29_i32 : BitVec 32 := 29#32
  let v586 : BitVec 32 := Scalar.addi c10_i32 c29_i32
  let c1_i32_555 : BitVec 32 := 1#32
  ⟨c10_i32, v586, c1_i32_555⟩
def k0_off37 (k0_t10 : Fin k0_t10_loop.trips) : Fin 4 → Nat :=
  let c9_1159 : Index := 9#32
  let c10_i32 : BitVec 32 := 10#32
  let c1_i32_555 : BitVec 32 := 1#32
  let arg7 : BitVec 32 := Scf.iv c10_i32 c1_i32_555 k0_t10
  let v1697 : Index := Scalar.indexCast arg7
  let c0_1160 : Index := 0#32
  let c0_1161 : Index := 0#32
  ![9, v1697.toNat, 0, 0]
def k0_off38 (k0_t10 : Fin k0_t10_loop.trips) : Fin 4 → Nat :=
  let c10_i32 : BitVec 32 := 10#32
  let c1_i32_555 : BitVec 32 := 1#32
  let arg7 : BitVec 32 := Scf.iv c10_i32 c1_i32_555 k0_t10
  let v1700 : Index := Scalar.indexCast arg7
  let c9_1162 : Index := 9#32
  let c0_1163 : Index := 0#32
  let c0_1164 : Index := 0#32
  ![v1700.toNat, 9, 0, 0]
def k0_off39 (k0_t10 : Fin k0_t10_loop.trips) : Fin 3 → Nat :=
  let c10_i32 : BitVec 32 := 10#32
  let c1_i32_555 : BitVec 32 := 1#32
  let arg7 : BitVec 32 := Scf.iv c10_i32 c1_i32_555 k0_t10
  let v1787 : Index := Scalar.indexCast arg7
  let c0_1197 : Index := 0#32
  let c0_1198 : Index := 0#32
  ![v1787.toNat, 0, 0]
def k0_off40 (k0_t10 : Fin k0_t10_loop.trips) : Fin 3 → Nat :=
  let c296_i32 : BitVec 32 := 296#32
  let c10_i32 : BitVec 32 := 10#32
  let c1_i32_555 : BitVec 32 := 1#32
  let arg7 : BitVec 32 := Scf.iv c10_i32 c1_i32_555 k0_t10
  let v1791 : BitVec 32 := Scalar.addi c296_i32 arg7
  let v1792 : Index := Scalar.indexCast v1791
  let c0_1199 : Index := 0#32
  let c0_1200 : Index := 0#32
  ![v1792.toNat, 0, 0]
@[reducible] def k0_t11_loop : Scf.Loop 32 :=
  let c11_i32 : BitVec 32 := 11#32
  let c28_i32 : BitVec 32 := 28#32
  let v590 : BitVec 32 := Scalar.addi c11_i32 c28_i32
  let c1_i32_560 : BitVec 32 := 1#32
  ⟨c11_i32, v590, c1_i32_560⟩
def k0_off41 (k0_t11 : Fin k0_t11_loop.trips) : Fin 4 → Nat :=
  let c10_1159 : Index := 10#32
  let c11_i32 : BitVec 32 := 11#32
  let c1_i32_560 : BitVec 32 := 1#32
  let arg7 : BitVec 32 := Scf.iv c11_i32 c1_i32_560 k0_t11
  let v1697 : Index := Scalar.indexCast arg7
  let c0_1160 : Index := 0#32
  let c0_1161 : Index := 0#32
  ![10, v1697.toNat, 0, 0]
def k0_off42 (k0_t11 : Fin k0_t11_loop.trips) : Fin 4 → Nat :=
  let c11_i32 : BitVec 32 := 11#32
  let c1_i32_560 : BitVec 32 := 1#32
  let arg7 : BitVec 32 := Scf.iv c11_i32 c1_i32_560 k0_t11
  let v1700 : Index := Scalar.indexCast arg7
  let c10_1162 : Index := 10#32
  let c0_1163 : Index := 0#32
  let c0_1164 : Index := 0#32
  ![v1700.toNat, 10, 0, 0]
def k0_off43 (k0_t11 : Fin k0_t11_loop.trips) : Fin 3 → Nat :=
  let c11_i32 : BitVec 32 := 11#32
  let c1_i32_560 : BitVec 32 := 1#32
  let arg7 : BitVec 32 := Scf.iv c11_i32 c1_i32_560 k0_t11
  let v1787 : Index := Scalar.indexCast arg7
  let c0_1197 : Index := 0#32
  let c0_1198 : Index := 0#32
  ![v1787.toNat, 0, 0]
def k0_off44 (k0_t11 : Fin k0_t11_loop.trips) : Fin 3 → Nat :=
  let c324_i32 : BitVec 32 := 324#32
  let c11_i32 : BitVec 32 := 11#32
  let c1_i32_560 : BitVec 32 := 1#32
  let arg7 : BitVec 32 := Scf.iv c11_i32 c1_i32_560 k0_t11
  let v1791 : BitVec 32 := Scalar.addi c324_i32 arg7
  let v1792 : Index := Scalar.indexCast v1791
  let c0_1199 : Index := 0#32
  let c0_1200 : Index := 0#32
  ![v1792.toNat, 0, 0]
@[reducible] def k0_t12_loop : Scf.Loop 32 :=
  let c12_i32 : BitVec 32 := 12#32
  let c27_i32 : BitVec 32 := 27#32
  let v594 : BitVec 32 := Scalar.addi c12_i32 c27_i32
  let c1_i32_565 : BitVec 32 := 1#32
  ⟨c12_i32, v594, c1_i32_565⟩
def k0_off45 (k0_t12 : Fin k0_t12_loop.trips) : Fin 4 → Nat :=
  let c11_1159 : Index := 11#32
  let c12_i32 : BitVec 32 := 12#32
  let c1_i32_565 : BitVec 32 := 1#32
  let arg7 : BitVec 32 := Scf.iv c12_i32 c1_i32_565 k0_t12
  let v1697 : Index := Scalar.indexCast arg7
  let c0_1160 : Index := 0#32
  let c0_1161 : Index := 0#32
  ![11, v1697.toNat, 0, 0]
def k0_off46 (k0_t12 : Fin k0_t12_loop.trips) : Fin 4 → Nat :=
  let c12_i32 : BitVec 32 := 12#32
  let c1_i32_565 : BitVec 32 := 1#32
  let arg7 : BitVec 32 := Scf.iv c12_i32 c1_i32_565 k0_t12
  let v1700 : Index := Scalar.indexCast arg7
  let c11_1162 : Index := 11#32
  let c0_1163 : Index := 0#32
  let c0_1164 : Index := 0#32
  ![v1700.toNat, 11, 0, 0]
def k0_off47 (k0_t12 : Fin k0_t12_loop.trips) : Fin 3 → Nat :=
  let c12_i32 : BitVec 32 := 12#32
  let c1_i32_565 : BitVec 32 := 1#32
  let arg7 : BitVec 32 := Scf.iv c12_i32 c1_i32_565 k0_t12
  let v1787 : Index := Scalar.indexCast arg7
  let c0_1197 : Index := 0#32
  let c0_1198 : Index := 0#32
  ![v1787.toNat, 0, 0]
def k0_off48 (k0_t12 : Fin k0_t12_loop.trips) : Fin 3 → Nat :=
  let c351_i32 : BitVec 32 := 351#32
  let c12_i32 : BitVec 32 := 12#32
  let c1_i32_565 : BitVec 32 := 1#32
  let arg7 : BitVec 32 := Scf.iv c12_i32 c1_i32_565 k0_t12
  let v1791 : BitVec 32 := Scalar.addi c351_i32 arg7
  let v1792 : Index := Scalar.indexCast v1791
  let c0_1199 : Index := 0#32
  let c0_1200 : Index := 0#32
  ![v1792.toNat, 0, 0]
@[reducible] def k0_t13_loop : Scf.Loop 32 :=
  let c13_i32 : BitVec 32 := 13#32
  let c26_i32 : BitVec 32 := 26#32
  let v598 : BitVec 32 := Scalar.addi c13_i32 c26_i32
  let c1_i32_570 : BitVec 32 := 1#32
  ⟨c13_i32, v598, c1_i32_570⟩
def k0_off49 (k0_t13 : Fin k0_t13_loop.trips) : Fin 4 → Nat :=
  let c12_1159 : Index := 12#32
  let c13_i32 : BitVec 32 := 13#32
  let c1_i32_570 : BitVec 32 := 1#32
  let arg7 : BitVec 32 := Scf.iv c13_i32 c1_i32_570 k0_t13
  let v1697 : Index := Scalar.indexCast arg7
  let c0_1160 : Index := 0#32
  let c0_1161 : Index := 0#32
  ![12, v1697.toNat, 0, 0]
def k0_off50 (k0_t13 : Fin k0_t13_loop.trips) : Fin 4 → Nat :=
  let c13_i32 : BitVec 32 := 13#32
  let c1_i32_570 : BitVec 32 := 1#32
  let arg7 : BitVec 32 := Scf.iv c13_i32 c1_i32_570 k0_t13
  let v1700 : Index := Scalar.indexCast arg7
  let c12_1162 : Index := 12#32
  let c0_1163 : Index := 0#32
  let c0_1164 : Index := 0#32
  ![v1700.toNat, 12, 0, 0]
def k0_off51 (k0_t13 : Fin k0_t13_loop.trips) : Fin 3 → Nat :=
  let c13_i32 : BitVec 32 := 13#32
  let c1_i32_570 : BitVec 32 := 1#32
  let arg7 : BitVec 32 := Scf.iv c13_i32 c1_i32_570 k0_t13
  let v1787 : Index := Scalar.indexCast arg7
  let c0_1197 : Index := 0#32
  let c0_1198 : Index := 0#32
  ![v1787.toNat, 0, 0]
def k0_off52 (k0_t13 : Fin k0_t13_loop.trips) : Fin 3 → Nat :=
  let c377_i32 : BitVec 32 := 377#32
  let c13_i32 : BitVec 32 := 13#32
  let c1_i32_570 : BitVec 32 := 1#32
  let arg7 : BitVec 32 := Scf.iv c13_i32 c1_i32_570 k0_t13
  let v1791 : BitVec 32 := Scalar.addi c377_i32 arg7
  let v1792 : Index := Scalar.indexCast v1791
  let c0_1199 : Index := 0#32
  let c0_1200 : Index := 0#32
  ![v1792.toNat, 0, 0]
@[reducible] def k0_t14_loop : Scf.Loop 32 :=
  let c14_i32 : BitVec 32 := 14#32
  let c25_i32 : BitVec 32 := 25#32
  let v602 : BitVec 32 := Scalar.addi c14_i32 c25_i32
  let c1_i32_575 : BitVec 32 := 1#32
  ⟨c14_i32, v602, c1_i32_575⟩
def k0_off53 (k0_t14 : Fin k0_t14_loop.trips) : Fin 4 → Nat :=
  let c13_1159 : Index := 13#32
  let c14_i32 : BitVec 32 := 14#32
  let c1_i32_575 : BitVec 32 := 1#32
  let arg7 : BitVec 32 := Scf.iv c14_i32 c1_i32_575 k0_t14
  let v1697 : Index := Scalar.indexCast arg7
  let c0_1160 : Index := 0#32
  let c0_1161 : Index := 0#32
  ![13, v1697.toNat, 0, 0]
def k0_off54 (k0_t14 : Fin k0_t14_loop.trips) : Fin 4 → Nat :=
  let c14_i32 : BitVec 32 := 14#32
  let c1_i32_575 : BitVec 32 := 1#32
  let arg7 : BitVec 32 := Scf.iv c14_i32 c1_i32_575 k0_t14
  let v1700 : Index := Scalar.indexCast arg7
  let c13_1162 : Index := 13#32
  let c0_1163 : Index := 0#32
  let c0_1164 : Index := 0#32
  ![v1700.toNat, 13, 0, 0]
def k0_off55 (k0_t14 : Fin k0_t14_loop.trips) : Fin 3 → Nat :=
  let c14_i32 : BitVec 32 := 14#32
  let c1_i32_575 : BitVec 32 := 1#32
  let arg7 : BitVec 32 := Scf.iv c14_i32 c1_i32_575 k0_t14
  let v1787 : Index := Scalar.indexCast arg7
  let c0_1197 : Index := 0#32
  let c0_1198 : Index := 0#32
  ![v1787.toNat, 0, 0]
def k0_off56 (k0_t14 : Fin k0_t14_loop.trips) : Fin 3 → Nat :=
  let c402_i32 : BitVec 32 := 402#32
  let c14_i32 : BitVec 32 := 14#32
  let c1_i32_575 : BitVec 32 := 1#32
  let arg7 : BitVec 32 := Scf.iv c14_i32 c1_i32_575 k0_t14
  let v1791 : BitVec 32 := Scalar.addi c402_i32 arg7
  let v1792 : Index := Scalar.indexCast v1791
  let c0_1199 : Index := 0#32
  let c0_1200 : Index := 0#32
  ![v1792.toNat, 0, 0]
@[reducible] def k0_t15_loop : Scf.Loop 32 :=
  let c15_i32 : BitVec 32 := 15#32
  let c24_i32 : BitVec 32 := 24#32
  let v606 : BitVec 32 := Scalar.addi c15_i32 c24_i32
  let c1_i32_580 : BitVec 32 := 1#32
  ⟨c15_i32, v606, c1_i32_580⟩
def k0_off57 (k0_t15 : Fin k0_t15_loop.trips) : Fin 4 → Nat :=
  let c14_1159 : Index := 14#32
  let c15_i32 : BitVec 32 := 15#32
  let c1_i32_580 : BitVec 32 := 1#32
  let arg7 : BitVec 32 := Scf.iv c15_i32 c1_i32_580 k0_t15
  let v1697 : Index := Scalar.indexCast arg7
  let c0_1160 : Index := 0#32
  let c0_1161 : Index := 0#32
  ![14, v1697.toNat, 0, 0]
def k0_off58 (k0_t15 : Fin k0_t15_loop.trips) : Fin 4 → Nat :=
  let c15_i32 : BitVec 32 := 15#32
  let c1_i32_580 : BitVec 32 := 1#32
  let arg7 : BitVec 32 := Scf.iv c15_i32 c1_i32_580 k0_t15
  let v1700 : Index := Scalar.indexCast arg7
  let c14_1162 : Index := 14#32
  let c0_1163 : Index := 0#32
  let c0_1164 : Index := 0#32
  ![v1700.toNat, 14, 0, 0]
def k0_off59 (k0_t15 : Fin k0_t15_loop.trips) : Fin 3 → Nat :=
  let c15_i32 : BitVec 32 := 15#32
  let c1_i32_580 : BitVec 32 := 1#32
  let arg7 : BitVec 32 := Scf.iv c15_i32 c1_i32_580 k0_t15
  let v1787 : Index := Scalar.indexCast arg7
  let c0_1197 : Index := 0#32
  let c0_1198 : Index := 0#32
  ![v1787.toNat, 0, 0]
def k0_off60 (k0_t15 : Fin k0_t15_loop.trips) : Fin 3 → Nat :=
  let c426_i32 : BitVec 32 := 426#32
  let c15_i32 : BitVec 32 := 15#32
  let c1_i32_580 : BitVec 32 := 1#32
  let arg7 : BitVec 32 := Scf.iv c15_i32 c1_i32_580 k0_t15
  let v1791 : BitVec 32 := Scalar.addi c426_i32 arg7
  let v1792 : Index := Scalar.indexCast v1791
  let c0_1199 : Index := 0#32
  let c0_1200 : Index := 0#32
  ![v1792.toNat, 0, 0]
@[reducible] def k0_t16_loop : Scf.Loop 32 :=
  let c16_i32 : BitVec 32 := 16#32
  let c23_i32 : BitVec 32 := 23#32
  let v610 : BitVec 32 := Scalar.addi c16_i32 c23_i32
  let c1_i32_585 : BitVec 32 := 1#32
  ⟨c16_i32, v610, c1_i32_585⟩
def k0_off61 (k0_t16 : Fin k0_t16_loop.trips) : Fin 4 → Nat :=
  let c15_1159 : Index := 15#32
  let c16_i32 : BitVec 32 := 16#32
  let c1_i32_585 : BitVec 32 := 1#32
  let arg7 : BitVec 32 := Scf.iv c16_i32 c1_i32_585 k0_t16
  let v1697 : Index := Scalar.indexCast arg7
  let c0_1160 : Index := 0#32
  let c0_1161 : Index := 0#32
  ![15, v1697.toNat, 0, 0]
def k0_off62 (k0_t16 : Fin k0_t16_loop.trips) : Fin 4 → Nat :=
  let c16_i32 : BitVec 32 := 16#32
  let c1_i32_585 : BitVec 32 := 1#32
  let arg7 : BitVec 32 := Scf.iv c16_i32 c1_i32_585 k0_t16
  let v1700 : Index := Scalar.indexCast arg7
  let c15_1162 : Index := 15#32
  let c0_1163 : Index := 0#32
  let c0_1164 : Index := 0#32
  ![v1700.toNat, 15, 0, 0]
def k0_off63 (k0_t16 : Fin k0_t16_loop.trips) : Fin 3 → Nat :=
  let c16_i32 : BitVec 32 := 16#32
  let c1_i32_585 : BitVec 32 := 1#32
  let arg7 : BitVec 32 := Scf.iv c16_i32 c1_i32_585 k0_t16
  let v1787 : Index := Scalar.indexCast arg7
  let c0_1197 : Index := 0#32
  let c0_1198 : Index := 0#32
  ![v1787.toNat, 0, 0]
def k0_off64 (k0_t16 : Fin k0_t16_loop.trips) : Fin 3 → Nat :=
  let c449_i32 : BitVec 32 := 449#32
  let c16_i32 : BitVec 32 := 16#32
  let c1_i32_585 : BitVec 32 := 1#32
  let arg7 : BitVec 32 := Scf.iv c16_i32 c1_i32_585 k0_t16
  let v1791 : BitVec 32 := Scalar.addi c449_i32 arg7
  let v1792 : Index := Scalar.indexCast v1791
  let c0_1199 : Index := 0#32
  let c0_1200 : Index := 0#32
  ![v1792.toNat, 0, 0]
@[reducible] def k0_t17_loop : Scf.Loop 32 :=
  let c17_i32 : BitVec 32 := 17#32
  let c22_i32 : BitVec 32 := 22#32
  let v614 : BitVec 32 := Scalar.addi c17_i32 c22_i32
  let c1_i32_590 : BitVec 32 := 1#32
  ⟨c17_i32, v614, c1_i32_590⟩
def k0_off65 (k0_t17 : Fin k0_t17_loop.trips) : Fin 4 → Nat :=
  let c16_1159 : Index := 16#32
  let c17_i32 : BitVec 32 := 17#32
  let c1_i32_590 : BitVec 32 := 1#32
  let arg7 : BitVec 32 := Scf.iv c17_i32 c1_i32_590 k0_t17
  let v1697 : Index := Scalar.indexCast arg7
  let c0_1160 : Index := 0#32
  let c0_1161 : Index := 0#32
  ![16, v1697.toNat, 0, 0]
def k0_off66 (k0_t17 : Fin k0_t17_loop.trips) : Fin 4 → Nat :=
  let c17_i32 : BitVec 32 := 17#32
  let c1_i32_590 : BitVec 32 := 1#32
  let arg7 : BitVec 32 := Scf.iv c17_i32 c1_i32_590 k0_t17
  let v1700 : Index := Scalar.indexCast arg7
  let c16_1162 : Index := 16#32
  let c0_1163 : Index := 0#32
  let c0_1164 : Index := 0#32
  ![v1700.toNat, 16, 0, 0]
def k0_off67 (k0_t17 : Fin k0_t17_loop.trips) : Fin 3 → Nat :=
  let c17_i32 : BitVec 32 := 17#32
  let c1_i32_590 : BitVec 32 := 1#32
  let arg7 : BitVec 32 := Scf.iv c17_i32 c1_i32_590 k0_t17
  let v1787 : Index := Scalar.indexCast arg7
  let c0_1197 : Index := 0#32
  let c0_1198 : Index := 0#32
  ![v1787.toNat, 0, 0]
def k0_off68 (k0_t17 : Fin k0_t17_loop.trips) : Fin 3 → Nat :=
  let c471_i32 : BitVec 32 := 471#32
  let c17_i32 : BitVec 32 := 17#32
  let c1_i32_590 : BitVec 32 := 1#32
  let arg7 : BitVec 32 := Scf.iv c17_i32 c1_i32_590 k0_t17
  let v1791 : BitVec 32 := Scalar.addi c471_i32 arg7
  let v1792 : Index := Scalar.indexCast v1791
  let c0_1199 : Index := 0#32
  let c0_1200 : Index := 0#32
  ![v1792.toNat, 0, 0]
@[reducible] def k0_t18_loop : Scf.Loop 32 :=
  let c18_i32 : BitVec 32 := 18#32
  let c21_i32 : BitVec 32 := 21#32
  let v618 : BitVec 32 := Scalar.addi c18_i32 c21_i32
  let c1_i32_595 : BitVec 32 := 1#32
  ⟨c18_i32, v618, c1_i32_595⟩
def k0_off69 (k0_t18 : Fin k0_t18_loop.trips) : Fin 4 → Nat :=
  let c17_1159 : Index := 17#32
  let c18_i32 : BitVec 32 := 18#32
  let c1_i32_595 : BitVec 32 := 1#32
  let arg7 : BitVec 32 := Scf.iv c18_i32 c1_i32_595 k0_t18
  let v1697 : Index := Scalar.indexCast arg7
  let c0_1160 : Index := 0#32
  let c0_1161 : Index := 0#32
  ![17, v1697.toNat, 0, 0]
def k0_off70 (k0_t18 : Fin k0_t18_loop.trips) : Fin 4 → Nat :=
  let c18_i32 : BitVec 32 := 18#32
  let c1_i32_595 : BitVec 32 := 1#32
  let arg7 : BitVec 32 := Scf.iv c18_i32 c1_i32_595 k0_t18
  let v1700 : Index := Scalar.indexCast arg7
  let c17_1162 : Index := 17#32
  let c0_1163 : Index := 0#32
  let c0_1164 : Index := 0#32
  ![v1700.toNat, 17, 0, 0]
def k0_off71 (k0_t18 : Fin k0_t18_loop.trips) : Fin 3 → Nat :=
  let c18_i32 : BitVec 32 := 18#32
  let c1_i32_595 : BitVec 32 := 1#32
  let arg7 : BitVec 32 := Scf.iv c18_i32 c1_i32_595 k0_t18
  let v1787 : Index := Scalar.indexCast arg7
  let c0_1197 : Index := 0#32
  let c0_1198 : Index := 0#32
  ![v1787.toNat, 0, 0]
def k0_off72 (k0_t18 : Fin k0_t18_loop.trips) : Fin 3 → Nat :=
  let c492_i32 : BitVec 32 := 492#32
  let c18_i32 : BitVec 32 := 18#32
  let c1_i32_595 : BitVec 32 := 1#32
  let arg7 : BitVec 32 := Scf.iv c18_i32 c1_i32_595 k0_t18
  let v1791 : BitVec 32 := Scalar.addi c492_i32 arg7
  let v1792 : Index := Scalar.indexCast v1791
  let c0_1199 : Index := 0#32
  let c0_1200 : Index := 0#32
  ![v1792.toNat, 0, 0]
@[reducible] def k0_t19_loop : Scf.Loop 32 :=
  let c19_i32 : BitVec 32 := 19#32
  let c20_i32 : BitVec 32 := 20#32
  let v622 : BitVec 32 := Scalar.addi c19_i32 c20_i32
  let c1_i32_600 : BitVec 32 := 1#32
  ⟨c19_i32, v622, c1_i32_600⟩
def k0_off73 (k0_t19 : Fin k0_t19_loop.trips) : Fin 4 → Nat :=
  let c18_1159 : Index := 18#32
  let c19_i32 : BitVec 32 := 19#32
  let c1_i32_600 : BitVec 32 := 1#32
  let arg7 : BitVec 32 := Scf.iv c19_i32 c1_i32_600 k0_t19
  let v1697 : Index := Scalar.indexCast arg7
  let c0_1160 : Index := 0#32
  let c0_1161 : Index := 0#32
  ![18, v1697.toNat, 0, 0]
def k0_off74 (k0_t19 : Fin k0_t19_loop.trips) : Fin 4 → Nat :=
  let c19_i32 : BitVec 32 := 19#32
  let c1_i32_600 : BitVec 32 := 1#32
  let arg7 : BitVec 32 := Scf.iv c19_i32 c1_i32_600 k0_t19
  let v1700 : Index := Scalar.indexCast arg7
  let c18_1162 : Index := 18#32
  let c0_1163 : Index := 0#32
  let c0_1164 : Index := 0#32
  ![v1700.toNat, 18, 0, 0]
def k0_off75 (k0_t19 : Fin k0_t19_loop.trips) : Fin 3 → Nat :=
  let c19_i32 : BitVec 32 := 19#32
  let c1_i32_600 : BitVec 32 := 1#32
  let arg7 : BitVec 32 := Scf.iv c19_i32 c1_i32_600 k0_t19
  let v1787 : Index := Scalar.indexCast arg7
  let c0_1197 : Index := 0#32
  let c0_1198 : Index := 0#32
  ![v1787.toNat, 0, 0]
def k0_off76 (k0_t19 : Fin k0_t19_loop.trips) : Fin 3 → Nat :=
  let c512_i32 : BitVec 32 := 512#32
  let c19_i32 : BitVec 32 := 19#32
  let c1_i32_600 : BitVec 32 := 1#32
  let arg7 : BitVec 32 := Scf.iv c19_i32 c1_i32_600 k0_t19
  let v1791 : BitVec 32 := Scalar.addi c512_i32 arg7
  let v1792 : Index := Scalar.indexCast v1791
  let c0_1199 : Index := 0#32
  let c0_1200 : Index := 0#32
  ![v1792.toNat, 0, 0]
@[reducible] def k0_t20_loop : Scf.Loop 32 :=
  let c20_i32_605 : BitVec 32 := 20#32
  let c19_i32_606 : BitVec 32 := 19#32
  let v626 : BitVec 32 := Scalar.addi c20_i32_605 c19_i32_606
  let c1_i32_607 : BitVec 32 := 1#32
  ⟨c20_i32_605, v626, c1_i32_607⟩
def k0_off77 (k0_t20 : Fin k0_t20_loop.trips) : Fin 4 → Nat :=
  let c19_1159 : Index := 19#32
  let c20_i32_605 : BitVec 32 := 20#32
  let c1_i32_607 : BitVec 32 := 1#32
  let arg7 : BitVec 32 := Scf.iv c20_i32_605 c1_i32_607 k0_t20
  let v1697 : Index := Scalar.indexCast arg7
  let c0_1160 : Index := 0#32
  let c0_1161 : Index := 0#32
  ![19, v1697.toNat, 0, 0]
def k0_off78 (k0_t20 : Fin k0_t20_loop.trips) : Fin 4 → Nat :=
  let c20_i32_605 : BitVec 32 := 20#32
  let c1_i32_607 : BitVec 32 := 1#32
  let arg7 : BitVec 32 := Scf.iv c20_i32_605 c1_i32_607 k0_t20
  let v1700 : Index := Scalar.indexCast arg7
  let c19_1162 : Index := 19#32
  let c0_1163 : Index := 0#32
  let c0_1164 : Index := 0#32
  ![v1700.toNat, 19, 0, 0]
def k0_off79 (k0_t20 : Fin k0_t20_loop.trips) : Fin 3 → Nat :=
  let c20_i32_605 : BitVec 32 := 20#32
  let c1_i32_607 : BitVec 32 := 1#32
  let arg7 : BitVec 32 := Scf.iv c20_i32_605 c1_i32_607 k0_t20
  let v1787 : Index := Scalar.indexCast arg7
  let c0_1197 : Index := 0#32
  let c0_1198 : Index := 0#32
  ![v1787.toNat, 0, 0]
def k0_off80 (k0_t20 : Fin k0_t20_loop.trips) : Fin 3 → Nat :=
  let c531_i32 : BitVec 32 := 531#32
  let c20_i32_605 : BitVec 32 := 20#32
  let c1_i32_607 : BitVec 32 := 1#32
  let arg7 : BitVec 32 := Scf.iv c20_i32_605 c1_i32_607 k0_t20
  let v1791 : BitVec 32 := Scalar.addi c531_i32 arg7
  let v1792 : Index := Scalar.indexCast v1791
  let c0_1199 : Index := 0#32
  let c0_1200 : Index := 0#32
  ![v1792.toNat, 0, 0]
@[reducible] def k0_t21_loop : Scf.Loop 32 :=
  let c21_i32_612 : BitVec 32 := 21#32
  let c18_i32_613 : BitVec 32 := 18#32
  let v630 : BitVec 32 := Scalar.addi c21_i32_612 c18_i32_613
  let c1_i32_614 : BitVec 32 := 1#32
  ⟨c21_i32_612, v630, c1_i32_614⟩
def k0_off81 (k0_t21 : Fin k0_t21_loop.trips) : Fin 4 → Nat :=
  let c20_1159 : Index := 20#32
  let c21_i32_612 : BitVec 32 := 21#32
  let c1_i32_614 : BitVec 32 := 1#32
  let arg7 : BitVec 32 := Scf.iv c21_i32_612 c1_i32_614 k0_t21
  let v1697 : Index := Scalar.indexCast arg7
  let c0_1160 : Index := 0#32
  let c0_1161 : Index := 0#32
  ![20, v1697.toNat, 0, 0]
def k0_off82 (k0_t21 : Fin k0_t21_loop.trips) : Fin 4 → Nat :=
  let c21_i32_612 : BitVec 32 := 21#32
  let c1_i32_614 : BitVec 32 := 1#32
  let arg7 : BitVec 32 := Scf.iv c21_i32_612 c1_i32_614 k0_t21
  let v1700 : Index := Scalar.indexCast arg7
  let c20_1162 : Index := 20#32
  let c0_1163 : Index := 0#32
  let c0_1164 : Index := 0#32
  ![v1700.toNat, 20, 0, 0]
def k0_off83 (k0_t21 : Fin k0_t21_loop.trips) : Fin 3 → Nat :=
  let c21_i32_612 : BitVec 32 := 21#32
  let c1_i32_614 : BitVec 32 := 1#32
  let arg7 : BitVec 32 := Scf.iv c21_i32_612 c1_i32_614 k0_t21
  let v1787 : Index := Scalar.indexCast arg7
  let c0_1197 : Index := 0#32
  let c0_1198 : Index := 0#32
  ![v1787.toNat, 0, 0]
def k0_off84 (k0_t21 : Fin k0_t21_loop.trips) : Fin 3 → Nat :=
  let c549_i32 : BitVec 32 := 549#32
  let c21_i32_612 : BitVec 32 := 21#32
  let c1_i32_614 : BitVec 32 := 1#32
  let arg7 : BitVec 32 := Scf.iv c21_i32_612 c1_i32_614 k0_t21
  let v1791 : BitVec 32 := Scalar.addi c549_i32 arg7
  let v1792 : Index := Scalar.indexCast v1791
  let c0_1199 : Index := 0#32
  let c0_1200 : Index := 0#32
  ![v1792.toNat, 0, 0]
@[reducible] def k0_t22_loop : Scf.Loop 32 :=
  let c22_i32_619 : BitVec 32 := 22#32
  let c17_i32_620 : BitVec 32 := 17#32
  let v634 : BitVec 32 := Scalar.addi c22_i32_619 c17_i32_620
  let c1_i32_621 : BitVec 32 := 1#32
  ⟨c22_i32_619, v634, c1_i32_621⟩
def k0_off85 (k0_t22 : Fin k0_t22_loop.trips) : Fin 4 → Nat :=
  let c21_1159 : Index := 21#32
  let c22_i32_619 : BitVec 32 := 22#32
  let c1_i32_621 : BitVec 32 := 1#32
  let arg7 : BitVec 32 := Scf.iv c22_i32_619 c1_i32_621 k0_t22
  let v1697 : Index := Scalar.indexCast arg7
  let c0_1160 : Index := 0#32
  let c0_1161 : Index := 0#32
  ![21, v1697.toNat, 0, 0]
def k0_off86 (k0_t22 : Fin k0_t22_loop.trips) : Fin 4 → Nat :=
  let c22_i32_619 : BitVec 32 := 22#32
  let c1_i32_621 : BitVec 32 := 1#32
  let arg7 : BitVec 32 := Scf.iv c22_i32_619 c1_i32_621 k0_t22
  let v1700 : Index := Scalar.indexCast arg7
  let c21_1162 : Index := 21#32
  let c0_1163 : Index := 0#32
  let c0_1164 : Index := 0#32
  ![v1700.toNat, 21, 0, 0]
def k0_off87 (k0_t22 : Fin k0_t22_loop.trips) : Fin 3 → Nat :=
  let c22_i32_619 : BitVec 32 := 22#32
  let c1_i32_621 : BitVec 32 := 1#32
  let arg7 : BitVec 32 := Scf.iv c22_i32_619 c1_i32_621 k0_t22
  let v1787 : Index := Scalar.indexCast arg7
  let c0_1197 : Index := 0#32
  let c0_1198 : Index := 0#32
  ![v1787.toNat, 0, 0]
def k0_off88 (k0_t22 : Fin k0_t22_loop.trips) : Fin 3 → Nat :=
  let c566_i32 : BitVec 32 := 566#32
  let c22_i32_619 : BitVec 32 := 22#32
  let c1_i32_621 : BitVec 32 := 1#32
  let arg7 : BitVec 32 := Scf.iv c22_i32_619 c1_i32_621 k0_t22
  let v1791 : BitVec 32 := Scalar.addi c566_i32 arg7
  let v1792 : Index := Scalar.indexCast v1791
  let c0_1199 : Index := 0#32
  let c0_1200 : Index := 0#32
  ![v1792.toNat, 0, 0]
@[reducible] def k0_t23_loop : Scf.Loop 32 :=
  let c23_i32_626 : BitVec 32 := 23#32
  let c16_i32_627 : BitVec 32 := 16#32
  let v638 : BitVec 32 := Scalar.addi c23_i32_626 c16_i32_627
  let c1_i32_628 : BitVec 32 := 1#32
  ⟨c23_i32_626, v638, c1_i32_628⟩
def k0_off89 (k0_t23 : Fin k0_t23_loop.trips) : Fin 4 → Nat :=
  let c22_1159 : Index := 22#32
  let c23_i32_626 : BitVec 32 := 23#32
  let c1_i32_628 : BitVec 32 := 1#32
  let arg7 : BitVec 32 := Scf.iv c23_i32_626 c1_i32_628 k0_t23
  let v1697 : Index := Scalar.indexCast arg7
  let c0_1160 : Index := 0#32
  let c0_1161 : Index := 0#32
  ![22, v1697.toNat, 0, 0]
def k0_off90 (k0_t23 : Fin k0_t23_loop.trips) : Fin 4 → Nat :=
  let c23_i32_626 : BitVec 32 := 23#32
  let c1_i32_628 : BitVec 32 := 1#32
  let arg7 : BitVec 32 := Scf.iv c23_i32_626 c1_i32_628 k0_t23
  let v1700 : Index := Scalar.indexCast arg7
  let c22_1162 : Index := 22#32
  let c0_1163 : Index := 0#32
  let c0_1164 : Index := 0#32
  ![v1700.toNat, 22, 0, 0]
def k0_off91 (k0_t23 : Fin k0_t23_loop.trips) : Fin 3 → Nat :=
  let c23_i32_626 : BitVec 32 := 23#32
  let c1_i32_628 : BitVec 32 := 1#32
  let arg7 : BitVec 32 := Scf.iv c23_i32_626 c1_i32_628 k0_t23
  let v1787 : Index := Scalar.indexCast arg7
  let c0_1197 : Index := 0#32
  let c0_1198 : Index := 0#32
  ![v1787.toNat, 0, 0]
def k0_off92 (k0_t23 : Fin k0_t23_loop.trips) : Fin 3 → Nat :=
  let c582_i32 : BitVec 32 := 582#32
  let c23_i32_626 : BitVec 32 := 23#32
  let c1_i32_628 : BitVec 32 := 1#32
  let arg7 : BitVec 32 := Scf.iv c23_i32_626 c1_i32_628 k0_t23
  let v1791 : BitVec 32 := Scalar.addi c582_i32 arg7
  let v1792 : Index := Scalar.indexCast v1791
  let c0_1199 : Index := 0#32
  let c0_1200 : Index := 0#32
  ![v1792.toNat, 0, 0]
@[reducible] def k0_t24_loop : Scf.Loop 32 :=
  let c24_i32_633 : BitVec 32 := 24#32
  let c15_i32_634 : BitVec 32 := 15#32
  let v642 : BitVec 32 := Scalar.addi c24_i32_633 c15_i32_634
  let c1_i32_635 : BitVec 32 := 1#32
  ⟨c24_i32_633, v642, c1_i32_635⟩
def k0_off93 (k0_t24 : Fin k0_t24_loop.trips) : Fin 4 → Nat :=
  let c23_1159 : Index := 23#32
  let c24_i32_633 : BitVec 32 := 24#32
  let c1_i32_635 : BitVec 32 := 1#32
  let arg7 : BitVec 32 := Scf.iv c24_i32_633 c1_i32_635 k0_t24
  let v1697 : Index := Scalar.indexCast arg7
  let c0_1160 : Index := 0#32
  let c0_1161 : Index := 0#32
  ![23, v1697.toNat, 0, 0]
def k0_off94 (k0_t24 : Fin k0_t24_loop.trips) : Fin 4 → Nat :=
  let c24_i32_633 : BitVec 32 := 24#32
  let c1_i32_635 : BitVec 32 := 1#32
  let arg7 : BitVec 32 := Scf.iv c24_i32_633 c1_i32_635 k0_t24
  let v1700 : Index := Scalar.indexCast arg7
  let c23_1162 : Index := 23#32
  let c0_1163 : Index := 0#32
  let c0_1164 : Index := 0#32
  ![v1700.toNat, 23, 0, 0]
def k0_off95 (k0_t24 : Fin k0_t24_loop.trips) : Fin 3 → Nat :=
  let c24_i32_633 : BitVec 32 := 24#32
  let c1_i32_635 : BitVec 32 := 1#32
  let arg7 : BitVec 32 := Scf.iv c24_i32_633 c1_i32_635 k0_t24
  let v1787 : Index := Scalar.indexCast arg7
  let c0_1197 : Index := 0#32
  let c0_1198 : Index := 0#32
  ![v1787.toNat, 0, 0]
def k0_off96 (k0_t24 : Fin k0_t24_loop.trips) : Fin 3 → Nat :=
  let c597_i32 : BitVec 32 := 597#32
  let c24_i32_633 : BitVec 32 := 24#32
  let c1_i32_635 : BitVec 32 := 1#32
  let arg7 : BitVec 32 := Scf.iv c24_i32_633 c1_i32_635 k0_t24
  let v1791 : BitVec 32 := Scalar.addi c597_i32 arg7
  let v1792 : Index := Scalar.indexCast v1791
  let c0_1199 : Index := 0#32
  let c0_1200 : Index := 0#32
  ![v1792.toNat, 0, 0]
@[reducible] def k0_t25_loop : Scf.Loop 32 :=
  let c25_i32_640 : BitVec 32 := 25#32
  let c14_i32_641 : BitVec 32 := 14#32
  let v646 : BitVec 32 := Scalar.addi c25_i32_640 c14_i32_641
  let c1_i32_642 : BitVec 32 := 1#32
  ⟨c25_i32_640, v646, c1_i32_642⟩
def k0_off97 (k0_t25 : Fin k0_t25_loop.trips) : Fin 4 → Nat :=
  let c24_1159 : Index := 24#32
  let c25_i32_640 : BitVec 32 := 25#32
  let c1_i32_642 : BitVec 32 := 1#32
  let arg7 : BitVec 32 := Scf.iv c25_i32_640 c1_i32_642 k0_t25
  let v1697 : Index := Scalar.indexCast arg7
  let c0_1160 : Index := 0#32
  let c0_1161 : Index := 0#32
  ![24, v1697.toNat, 0, 0]
def k0_off98 (k0_t25 : Fin k0_t25_loop.trips) : Fin 4 → Nat :=
  let c25_i32_640 : BitVec 32 := 25#32
  let c1_i32_642 : BitVec 32 := 1#32
  let arg7 : BitVec 32 := Scf.iv c25_i32_640 c1_i32_642 k0_t25
  let v1700 : Index := Scalar.indexCast arg7
  let c24_1162 : Index := 24#32
  let c0_1163 : Index := 0#32
  let c0_1164 : Index := 0#32
  ![v1700.toNat, 24, 0, 0]
def k0_off99 (k0_t25 : Fin k0_t25_loop.trips) : Fin 3 → Nat :=
  let c25_i32_640 : BitVec 32 := 25#32
  let c1_i32_642 : BitVec 32 := 1#32
  let arg7 : BitVec 32 := Scf.iv c25_i32_640 c1_i32_642 k0_t25
  let v1787 : Index := Scalar.indexCast arg7
  let c0_1197 : Index := 0#32
  let c0_1198 : Index := 0#32
  ![v1787.toNat, 0, 0]
def k0_off100 (k0_t25 : Fin k0_t25_loop.trips) : Fin 3 → Nat :=
  let c611_i32 : BitVec 32 := 611#32
  let c25_i32_640 : BitVec 32 := 25#32
  let c1_i32_642 : BitVec 32 := 1#32
  let arg7 : BitVec 32 := Scf.iv c25_i32_640 c1_i32_642 k0_t25
  let v1791 : BitVec 32 := Scalar.addi c611_i32 arg7
  let v1792 : Index := Scalar.indexCast v1791
  let c0_1199 : Index := 0#32
  let c0_1200 : Index := 0#32
  ![v1792.toNat, 0, 0]
@[reducible] def k0_t26_loop : Scf.Loop 32 :=
  let c26_i32_647 : BitVec 32 := 26#32
  let c13_i32_648 : BitVec 32 := 13#32
  let v650 : BitVec 32 := Scalar.addi c26_i32_647 c13_i32_648
  let c1_i32_649 : BitVec 32 := 1#32
  ⟨c26_i32_647, v650, c1_i32_649⟩
def k0_off101 (k0_t26 : Fin k0_t26_loop.trips) : Fin 4 → Nat :=
  let c25_1159 : Index := 25#32
  let c26_i32_647 : BitVec 32 := 26#32
  let c1_i32_649 : BitVec 32 := 1#32
  let arg7 : BitVec 32 := Scf.iv c26_i32_647 c1_i32_649 k0_t26
  let v1697 : Index := Scalar.indexCast arg7
  let c0_1160 : Index := 0#32
  let c0_1161 : Index := 0#32
  ![25, v1697.toNat, 0, 0]
def k0_off102 (k0_t26 : Fin k0_t26_loop.trips) : Fin 4 → Nat :=
  let c26_i32_647 : BitVec 32 := 26#32
  let c1_i32_649 : BitVec 32 := 1#32
  let arg7 : BitVec 32 := Scf.iv c26_i32_647 c1_i32_649 k0_t26
  let v1700 : Index := Scalar.indexCast arg7
  let c25_1162 : Index := 25#32
  let c0_1163 : Index := 0#32
  let c0_1164 : Index := 0#32
  ![v1700.toNat, 25, 0, 0]
def k0_off103 (k0_t26 : Fin k0_t26_loop.trips) : Fin 3 → Nat :=
  let c26_i32_647 : BitVec 32 := 26#32
  let c1_i32_649 : BitVec 32 := 1#32
  let arg7 : BitVec 32 := Scf.iv c26_i32_647 c1_i32_649 k0_t26
  let v1787 : Index := Scalar.indexCast arg7
  let c0_1197 : Index := 0#32
  let c0_1198 : Index := 0#32
  ![v1787.toNat, 0, 0]
def k0_off104 (k0_t26 : Fin k0_t26_loop.trips) : Fin 3 → Nat :=
  let c624_i32 : BitVec 32 := 624#32
  let c26_i32_647 : BitVec 32 := 26#32
  let c1_i32_649 : BitVec 32 := 1#32
  let arg7 : BitVec 32 := Scf.iv c26_i32_647 c1_i32_649 k0_t26
  let v1791 : BitVec 32 := Scalar.addi c624_i32 arg7
  let v1792 : Index := Scalar.indexCast v1791
  let c0_1199 : Index := 0#32
  let c0_1200 : Index := 0#32
  ![v1792.toNat, 0, 0]
@[reducible] def k0_t27_loop : Scf.Loop 32 :=
  let c27_i32_654 : BitVec 32 := 27#32
  let c12_i32_655 : BitVec 32 := 12#32
  let v654 : BitVec 32 := Scalar.addi c27_i32_654 c12_i32_655
  let c1_i32_656 : BitVec 32 := 1#32
  ⟨c27_i32_654, v654, c1_i32_656⟩
def k0_off105 (k0_t27 : Fin k0_t27_loop.trips) : Fin 4 → Nat :=
  let c26_1159 : Index := 26#32
  let c27_i32_654 : BitVec 32 := 27#32
  let c1_i32_656 : BitVec 32 := 1#32
  let arg7 : BitVec 32 := Scf.iv c27_i32_654 c1_i32_656 k0_t27
  let v1697 : Index := Scalar.indexCast arg7
  let c0_1160 : Index := 0#32
  let c0_1161 : Index := 0#32
  ![26, v1697.toNat, 0, 0]
def k0_off106 (k0_t27 : Fin k0_t27_loop.trips) : Fin 4 → Nat :=
  let c27_i32_654 : BitVec 32 := 27#32
  let c1_i32_656 : BitVec 32 := 1#32
  let arg7 : BitVec 32 := Scf.iv c27_i32_654 c1_i32_656 k0_t27
  let v1700 : Index := Scalar.indexCast arg7
  let c26_1162 : Index := 26#32
  let c0_1163 : Index := 0#32
  let c0_1164 : Index := 0#32
  ![v1700.toNat, 26, 0, 0]
def k0_off107 (k0_t27 : Fin k0_t27_loop.trips) : Fin 3 → Nat :=
  let c27_i32_654 : BitVec 32 := 27#32
  let c1_i32_656 : BitVec 32 := 1#32
  let arg7 : BitVec 32 := Scf.iv c27_i32_654 c1_i32_656 k0_t27
  let v1787 : Index := Scalar.indexCast arg7
  let c0_1197 : Index := 0#32
  let c0_1198 : Index := 0#32
  ![v1787.toNat, 0, 0]
def k0_off108 (k0_t27 : Fin k0_t27_loop.trips) : Fin 3 → Nat :=
  let c636_i32 : BitVec 32 := 636#32
  let c27_i32_654 : BitVec 32 := 27#32
  let c1_i32_656 : BitVec 32 := 1#32
  let arg7 : BitVec 32 := Scf.iv c27_i32_654 c1_i32_656 k0_t27
  let v1791 : BitVec 32 := Scalar.addi c636_i32 arg7
  let v1792 : Index := Scalar.indexCast v1791
  let c0_1199 : Index := 0#32
  let c0_1200 : Index := 0#32
  ![v1792.toNat, 0, 0]
@[reducible] def k0_t28_loop : Scf.Loop 32 :=
  let c28_i32_661 : BitVec 32 := 28#32
  let c11_i32_662 : BitVec 32 := 11#32
  let v658 : BitVec 32 := Scalar.addi c28_i32_661 c11_i32_662
  let c1_i32_663 : BitVec 32 := 1#32
  ⟨c28_i32_661, v658, c1_i32_663⟩
def k0_off109 (k0_t28 : Fin k0_t28_loop.trips) : Fin 4 → Nat :=
  let c27_1159 : Index := 27#32
  let c28_i32_661 : BitVec 32 := 28#32
  let c1_i32_663 : BitVec 32 := 1#32
  let arg7 : BitVec 32 := Scf.iv c28_i32_661 c1_i32_663 k0_t28
  let v1697 : Index := Scalar.indexCast arg7
  let c0_1160 : Index := 0#32
  let c0_1161 : Index := 0#32
  ![27, v1697.toNat, 0, 0]
def k0_off110 (k0_t28 : Fin k0_t28_loop.trips) : Fin 4 → Nat :=
  let c28_i32_661 : BitVec 32 := 28#32
  let c1_i32_663 : BitVec 32 := 1#32
  let arg7 : BitVec 32 := Scf.iv c28_i32_661 c1_i32_663 k0_t28
  let v1700 : Index := Scalar.indexCast arg7
  let c27_1162 : Index := 27#32
  let c0_1163 : Index := 0#32
  let c0_1164 : Index := 0#32
  ![v1700.toNat, 27, 0, 0]
def k0_off111 (k0_t28 : Fin k0_t28_loop.trips) : Fin 3 → Nat :=
  let c28_i32_661 : BitVec 32 := 28#32
  let c1_i32_663 : BitVec 32 := 1#32
  let arg7 : BitVec 32 := Scf.iv c28_i32_661 c1_i32_663 k0_t28
  let v1787 : Index := Scalar.indexCast arg7
  let c0_1197 : Index := 0#32
  let c0_1198 : Index := 0#32
  ![v1787.toNat, 0, 0]
def k0_off112 (k0_t28 : Fin k0_t28_loop.trips) : Fin 3 → Nat :=
  let c647_i32 : BitVec 32 := 647#32
  let c28_i32_661 : BitVec 32 := 28#32
  let c1_i32_663 : BitVec 32 := 1#32
  let arg7 : BitVec 32 := Scf.iv c28_i32_661 c1_i32_663 k0_t28
  let v1791 : BitVec 32 := Scalar.addi c647_i32 arg7
  let v1792 : Index := Scalar.indexCast v1791
  let c0_1199 : Index := 0#32
  let c0_1200 : Index := 0#32
  ![v1792.toNat, 0, 0]
@[reducible] def k0_t29_loop : Scf.Loop 32 :=
  let c29_i32_668 : BitVec 32 := 29#32
  let c10_i32_669 : BitVec 32 := 10#32
  let v662 : BitVec 32 := Scalar.addi c29_i32_668 c10_i32_669
  let c1_i32_670 : BitVec 32 := 1#32
  ⟨c29_i32_668, v662, c1_i32_670⟩
def k0_off113 (k0_t29 : Fin k0_t29_loop.trips) : Fin 4 → Nat :=
  let c28_1159 : Index := 28#32
  let c29_i32_668 : BitVec 32 := 29#32
  let c1_i32_670 : BitVec 32 := 1#32
  let arg7 : BitVec 32 := Scf.iv c29_i32_668 c1_i32_670 k0_t29
  let v1697 : Index := Scalar.indexCast arg7
  let c0_1160 : Index := 0#32
  let c0_1161 : Index := 0#32
  ![28, v1697.toNat, 0, 0]
def k0_off114 (k0_t29 : Fin k0_t29_loop.trips) : Fin 4 → Nat :=
  let c29_i32_668 : BitVec 32 := 29#32
  let c1_i32_670 : BitVec 32 := 1#32
  let arg7 : BitVec 32 := Scf.iv c29_i32_668 c1_i32_670 k0_t29
  let v1700 : Index := Scalar.indexCast arg7
  let c28_1162 : Index := 28#32
  let c0_1163 : Index := 0#32
  let c0_1164 : Index := 0#32
  ![v1700.toNat, 28, 0, 0]
def k0_off115 (k0_t29 : Fin k0_t29_loop.trips) : Fin 3 → Nat :=
  let c29_i32_668 : BitVec 32 := 29#32
  let c1_i32_670 : BitVec 32 := 1#32
  let arg7 : BitVec 32 := Scf.iv c29_i32_668 c1_i32_670 k0_t29
  let v1787 : Index := Scalar.indexCast arg7
  let c0_1197 : Index := 0#32
  let c0_1198 : Index := 0#32
  ![v1787.toNat, 0, 0]
def k0_off116 (k0_t29 : Fin k0_t29_loop.trips) : Fin 3 → Nat :=
  let c657_i32 : BitVec 32 := 657#32
  let c29_i32_668 : BitVec 32 := 29#32
  let c1_i32_670 : BitVec 32 := 1#32
  let arg7 : BitVec 32 := Scf.iv c29_i32_668 c1_i32_670 k0_t29
  let v1791 : BitVec 32 := Scalar.addi c657_i32 arg7
  let v1792 : Index := Scalar.indexCast v1791
  let c0_1199 : Index := 0#32
  let c0_1200 : Index := 0#32
  ![v1792.toNat, 0, 0]
@[reducible] def k0_t30_loop : Scf.Loop 32 :=
  let c30_i32_675 : BitVec 32 := 30#32
  let c9_i32_676 : BitVec 32 := 9#32
  let v666 : BitVec 32 := Scalar.addi c30_i32_675 c9_i32_676
  let c1_i32_677 : BitVec 32 := 1#32
  ⟨c30_i32_675, v666, c1_i32_677⟩
def k0_off117 (k0_t30 : Fin k0_t30_loop.trips) : Fin 4 → Nat :=
  let c29_1159 : Index := 29#32
  let c30_i32_675 : BitVec 32 := 30#32
  let c1_i32_677 : BitVec 32 := 1#32
  let arg7 : BitVec 32 := Scf.iv c30_i32_675 c1_i32_677 k0_t30
  let v1697 : Index := Scalar.indexCast arg7
  let c0_1160 : Index := 0#32
  let c0_1161 : Index := 0#32
  ![29, v1697.toNat, 0, 0]
def k0_off118 (k0_t30 : Fin k0_t30_loop.trips) : Fin 4 → Nat :=
  let c30_i32_675 : BitVec 32 := 30#32
  let c1_i32_677 : BitVec 32 := 1#32
  let arg7 : BitVec 32 := Scf.iv c30_i32_675 c1_i32_677 k0_t30
  let v1700 : Index := Scalar.indexCast arg7
  let c29_1162 : Index := 29#32
  let c0_1163 : Index := 0#32
  let c0_1164 : Index := 0#32
  ![v1700.toNat, 29, 0, 0]
def k0_off119 (k0_t30 : Fin k0_t30_loop.trips) : Fin 3 → Nat :=
  let c30_i32_675 : BitVec 32 := 30#32
  let c1_i32_677 : BitVec 32 := 1#32
  let arg7 : BitVec 32 := Scf.iv c30_i32_675 c1_i32_677 k0_t30
  let v1787 : Index := Scalar.indexCast arg7
  let c0_1197 : Index := 0#32
  let c0_1198 : Index := 0#32
  ![v1787.toNat, 0, 0]
def k0_off120 (k0_t30 : Fin k0_t30_loop.trips) : Fin 3 → Nat :=
  let c666_i32 : BitVec 32 := 666#32
  let c30_i32_675 : BitVec 32 := 30#32
  let c1_i32_677 : BitVec 32 := 1#32
  let arg7 : BitVec 32 := Scf.iv c30_i32_675 c1_i32_677 k0_t30
  let v1791 : BitVec 32 := Scalar.addi c666_i32 arg7
  let v1792 : Index := Scalar.indexCast v1791
  let c0_1199 : Index := 0#32
  let c0_1200 : Index := 0#32
  ![v1792.toNat, 0, 0]
@[reducible] def k0_t31_loop : Scf.Loop 32 :=
  let c31_i32_682 : BitVec 32 := 31#32
  let c8_i32_683 : BitVec 32 := 8#32
  let v670 : BitVec 32 := Scalar.addi c31_i32_682 c8_i32_683
  let c1_i32_684 : BitVec 32 := 1#32
  ⟨c31_i32_682, v670, c1_i32_684⟩
def k0_off121 (k0_t31 : Fin k0_t31_loop.trips) : Fin 4 → Nat :=
  let c30_1159 : Index := 30#32
  let c31_i32_682 : BitVec 32 := 31#32
  let c1_i32_684 : BitVec 32 := 1#32
  let arg7 : BitVec 32 := Scf.iv c31_i32_682 c1_i32_684 k0_t31
  let v1697 : Index := Scalar.indexCast arg7
  let c0_1160 : Index := 0#32
  let c0_1161 : Index := 0#32
  ![30, v1697.toNat, 0, 0]
def k0_off122 (k0_t31 : Fin k0_t31_loop.trips) : Fin 4 → Nat :=
  let c31_i32_682 : BitVec 32 := 31#32
  let c1_i32_684 : BitVec 32 := 1#32
  let arg7 : BitVec 32 := Scf.iv c31_i32_682 c1_i32_684 k0_t31
  let v1700 : Index := Scalar.indexCast arg7
  let c30_1162 : Index := 30#32
  let c0_1163 : Index := 0#32
  let c0_1164 : Index := 0#32
  ![v1700.toNat, 30, 0, 0]
def k0_off123 (k0_t31 : Fin k0_t31_loop.trips) : Fin 3 → Nat :=
  let c31_i32_682 : BitVec 32 := 31#32
  let c1_i32_684 : BitVec 32 := 1#32
  let arg7 : BitVec 32 := Scf.iv c31_i32_682 c1_i32_684 k0_t31
  let v1787 : Index := Scalar.indexCast arg7
  let c0_1197 : Index := 0#32
  let c0_1198 : Index := 0#32
  ![v1787.toNat, 0, 0]
def k0_off124 (k0_t31 : Fin k0_t31_loop.trips) : Fin 3 → Nat :=
  let c674_i32 : BitVec 32 := 674#32
  let c31_i32_682 : BitVec 32 := 31#32
  let c1_i32_684 : BitVec 32 := 1#32
  let arg7 : BitVec 32 := Scf.iv c31_i32_682 c1_i32_684 k0_t31
  let v1791 : BitVec 32 := Scalar.addi c674_i32 arg7
  let v1792 : Index := Scalar.indexCast v1791
  let c0_1199 : Index := 0#32
  let c0_1200 : Index := 0#32
  ![v1792.toNat, 0, 0]
@[reducible] def k0_t32_loop : Scf.Loop 32 :=
  let c32_i32_689 : BitVec 32 := 32#32
  let c7_i32_690 : BitVec 32 := 7#32
  let v674 : BitVec 32 := Scalar.addi c32_i32_689 c7_i32_690
  let c1_i32_691 : BitVec 32 := 1#32
  ⟨c32_i32_689, v674, c1_i32_691⟩
def k0_off125 (k0_t32 : Fin k0_t32_loop.trips) : Fin 4 → Nat :=
  let c31_1159 : Index := 31#32
  let c32_i32_689 : BitVec 32 := 32#32
  let c1_i32_691 : BitVec 32 := 1#32
  let arg7 : BitVec 32 := Scf.iv c32_i32_689 c1_i32_691 k0_t32
  let v1697 : Index := Scalar.indexCast arg7
  let c0_1160 : Index := 0#32
  let c0_1161 : Index := 0#32
  ![31, v1697.toNat, 0, 0]
def k0_off126 (k0_t32 : Fin k0_t32_loop.trips) : Fin 4 → Nat :=
  let c32_i32_689 : BitVec 32 := 32#32
  let c1_i32_691 : BitVec 32 := 1#32
  let arg7 : BitVec 32 := Scf.iv c32_i32_689 c1_i32_691 k0_t32
  let v1700 : Index := Scalar.indexCast arg7
  let c31_1162 : Index := 31#32
  let c0_1163 : Index := 0#32
  let c0_1164 : Index := 0#32
  ![v1700.toNat, 31, 0, 0]
def k0_off127 (k0_t32 : Fin k0_t32_loop.trips) : Fin 3 → Nat :=
  let c32_i32_689 : BitVec 32 := 32#32
  let c1_i32_691 : BitVec 32 := 1#32
  let arg7 : BitVec 32 := Scf.iv c32_i32_689 c1_i32_691 k0_t32
  let v1787 : Index := Scalar.indexCast arg7
  let c0_1197 : Index := 0#32
  let c0_1198 : Index := 0#32
  ![v1787.toNat, 0, 0]
def k0_off128 (k0_t32 : Fin k0_t32_loop.trips) : Fin 3 → Nat :=
  let c681_i32 : BitVec 32 := 681#32
  let c32_i32_689 : BitVec 32 := 32#32
  let c1_i32_691 : BitVec 32 := 1#32
  let arg7 : BitVec 32 := Scf.iv c32_i32_689 c1_i32_691 k0_t32
  let v1791 : BitVec 32 := Scalar.addi c681_i32 arg7
  let v1792 : Index := Scalar.indexCast v1791
  let c0_1199 : Index := 0#32
  let c0_1200 : Index := 0#32
  ![v1792.toNat, 0, 0]
@[reducible] def k0_t33_loop : Scf.Loop 32 :=
  let c33_i32_696 : BitVec 32 := 33#32
  let c6_i32_697 : BitVec 32 := 6#32
  let v678 : BitVec 32 := Scalar.addi c33_i32_696 c6_i32_697
  let c1_i32_698 : BitVec 32 := 1#32
  ⟨c33_i32_696, v678, c1_i32_698⟩
def k0_off129 (k0_t33 : Fin k0_t33_loop.trips) : Fin 4 → Nat :=
  let c32_1159 : Index := 32#32
  let c33_i32_696 : BitVec 32 := 33#32
  let c1_i32_698 : BitVec 32 := 1#32
  let arg7 : BitVec 32 := Scf.iv c33_i32_696 c1_i32_698 k0_t33
  let v1697 : Index := Scalar.indexCast arg7
  let c0_1160 : Index := 0#32
  let c0_1161 : Index := 0#32
  ![32, v1697.toNat, 0, 0]
def k0_off130 (k0_t33 : Fin k0_t33_loop.trips) : Fin 4 → Nat :=
  let c33_i32_696 : BitVec 32 := 33#32
  let c1_i32_698 : BitVec 32 := 1#32
  let arg7 : BitVec 32 := Scf.iv c33_i32_696 c1_i32_698 k0_t33
  let v1700 : Index := Scalar.indexCast arg7
  let c32_1162 : Index := 32#32
  let c0_1163 : Index := 0#32
  let c0_1164 : Index := 0#32
  ![v1700.toNat, 32, 0, 0]
def k0_off131 (k0_t33 : Fin k0_t33_loop.trips) : Fin 3 → Nat :=
  let c33_i32_696 : BitVec 32 := 33#32
  let c1_i32_698 : BitVec 32 := 1#32
  let arg7 : BitVec 32 := Scf.iv c33_i32_696 c1_i32_698 k0_t33
  let v1787 : Index := Scalar.indexCast arg7
  let c0_1197 : Index := 0#32
  let c0_1198 : Index := 0#32
  ![v1787.toNat, 0, 0]
def k0_off132 (k0_t33 : Fin k0_t33_loop.trips) : Fin 3 → Nat :=
  let c687_i32 : BitVec 32 := 687#32
  let c33_i32_696 : BitVec 32 := 33#32
  let c1_i32_698 : BitVec 32 := 1#32
  let arg7 : BitVec 32 := Scf.iv c33_i32_696 c1_i32_698 k0_t33
  let v1791 : BitVec 32 := Scalar.addi c687_i32 arg7
  let v1792 : Index := Scalar.indexCast v1791
  let c0_1199 : Index := 0#32
  let c0_1200 : Index := 0#32
  ![v1792.toNat, 0, 0]
@[reducible] def k0_t34_loop : Scf.Loop 32 :=
  let c34_i32_703 : BitVec 32 := 34#32
  let c5_i32_704 : BitVec 32 := 5#32
  let v682 : BitVec 32 := Scalar.addi c34_i32_703 c5_i32_704
  let c1_i32_705 : BitVec 32 := 1#32
  ⟨c34_i32_703, v682, c1_i32_705⟩
def k0_off133 (k0_t34 : Fin k0_t34_loop.trips) : Fin 4 → Nat :=
  let c33_1159 : Index := 33#32
  let c34_i32_703 : BitVec 32 := 34#32
  let c1_i32_705 : BitVec 32 := 1#32
  let arg7 : BitVec 32 := Scf.iv c34_i32_703 c1_i32_705 k0_t34
  let v1697 : Index := Scalar.indexCast arg7
  let c0_1160 : Index := 0#32
  let c0_1161 : Index := 0#32
  ![33, v1697.toNat, 0, 0]
def k0_off134 (k0_t34 : Fin k0_t34_loop.trips) : Fin 4 → Nat :=
  let c34_i32_703 : BitVec 32 := 34#32
  let c1_i32_705 : BitVec 32 := 1#32
  let arg7 : BitVec 32 := Scf.iv c34_i32_703 c1_i32_705 k0_t34
  let v1700 : Index := Scalar.indexCast arg7
  let c33_1162 : Index := 33#32
  let c0_1163 : Index := 0#32
  let c0_1164 : Index := 0#32
  ![v1700.toNat, 33, 0, 0]
def k0_off135 (k0_t34 : Fin k0_t34_loop.trips) : Fin 3 → Nat :=
  let c34_i32_703 : BitVec 32 := 34#32
  let c1_i32_705 : BitVec 32 := 1#32
  let arg7 : BitVec 32 := Scf.iv c34_i32_703 c1_i32_705 k0_t34
  let v1787 : Index := Scalar.indexCast arg7
  let c0_1197 : Index := 0#32
  let c0_1198 : Index := 0#32
  ![v1787.toNat, 0, 0]
def k0_off136 (k0_t34 : Fin k0_t34_loop.trips) : Fin 3 → Nat :=
  let c692_i32 : BitVec 32 := 692#32
  let c34_i32_703 : BitVec 32 := 34#32
  let c1_i32_705 : BitVec 32 := 1#32
  let arg7 : BitVec 32 := Scf.iv c34_i32_703 c1_i32_705 k0_t34
  let v1791 : BitVec 32 := Scalar.addi c692_i32 arg7
  let v1792 : Index := Scalar.indexCast v1791
  let c0_1199 : Index := 0#32
  let c0_1200 : Index := 0#32
  ![v1792.toNat, 0, 0]
def k0_off137 (c696_i32 : BitVec 32) (c35_i32_710 : BitVec 32) : Fin 3 → Nat :=
  let v780 : BitVec 32 := Scalar.addi c696_i32 c35_i32_710
  let v781 : Index := Scalar.indexCast v780
  let c0_748 : Index := 0#32
  let c0_749 : Index := 0#32
  ![v781.toNat, 0, 0]
def k0_off137_at (r : Fin 10) : BitVec 32 × BitVec 32 :=
  if r.val < 5 then
    if r.val < 2 then
      if r.val < 1 then
        (696#32, 35#32)
      else
        (696#32, 36#32)
    else
      if r.val < 3 then
        (696#32, 37#32)
      else
        if r.val < 4 then
          (696#32, 38#32)
        else
          (699#32, 36#32)
  else
    if r.val < 7 then
      if r.val < 6 then
        (699#32, 37#32)
      else
        (699#32, 38#32)
    else
      if r.val < 8 then
        (701#32, 37#32)
      else
        if r.val < 9 then
          (701#32, 38#32)
        else
          (702#32, 38#32)
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S39x40x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S39x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S741x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S1 : Shape := ⟨1, ![1]⟩
abbrev S39x40x192x128 : Shape := ⟨4, ![39, 40, 192, 128]⟩
abbrev S39x192x128 : Shape := ⟨3, ![39, 192, 128]⟩
abbrev S39 : Shape := ⟨1, ![39]⟩
abbrev S741 : Shape := ⟨1, ![741]⟩
abbrev S39x1x192x128 : Shape := ⟨4, ![39, 1, 192, 128]⟩
abbrev S_ : Shape := ⟨0, ![]⟩
abbrev S39x1 : Shape := ⟨2, ![39, 1]⟩
abbrev S39x2 : Shape := ⟨2, ![39, 2]⟩
abbrev S741x1 : Shape := ⟨2, ![741, 1]⟩
abbrev S741x2 : Shape := ⟨2, ![741, 2]⟩
abbrev S741x192x128 : Shape := ⟨3, ![741, 192, 128]⟩
abbrev S192x128 : Shape := ⟨2, ![192, 128]⟩

abbrev nBuf : Space → Nat
  | .hbm => 305
  | .vmem => 0
  | .smem => 0
  | _ => 0

abbrev hbmTy0_0 (i : Nat) : BufTy := match i % 128 with
  | 0 => ⟨S1, .f32⟩
  | 1 => ⟨S39x40x192x128, .i32⟩
  | 2 => ⟨S39x192x128, .f32⟩
  | 3 => ⟨S39, .i32⟩
  | 4 => ⟨S39, .i1⟩
  | 5 => ⟨S39, .i1⟩
  | 6 => ⟨S741, .i32⟩
  | 7 => ⟨S741, .i1⟩
  | 8 => ⟨S741, .i32⟩
  | 9 => ⟨S741, .i1⟩
  | 10 => ⟨S741, .i1⟩
  | 11 => ⟨S741, .i1⟩
  | 12 => ⟨S741, .i1⟩
  | 13 => ⟨S741, .i1⟩
  | 14 => ⟨S39x1x192x128, .i32⟩
  | 15 => ⟨S39x192x128, .i32⟩
  | 16 => ⟨S39x192x128, .f32⟩
  | 17 => ⟨S_, .i32⟩
  | 18 => ⟨S39, .i32⟩
  | 19 => ⟨S39, .i32⟩
  | 20 => ⟨S39, .i32⟩
  | 21 => ⟨S_, .i32⟩
  | 22 => ⟨S39, .i32⟩
  | 23 => ⟨S39, .i32⟩
  | 24 => ⟨S39, .i32⟩
  | 25 => ⟨S39x1, .i32⟩
  | 26 => ⟨S39x1, .i32⟩
  | 27 => ⟨S39x2, .i32⟩
  | 28 => ⟨S39x192x128, .i32⟩
  | 29 => ⟨S39x192x128, .f32⟩
  | 30 => ⟨S_, .i32⟩
  | 31 => ⟨S741, .i32⟩
  | 32 => ⟨S741, .i32⟩
  | 33 => ⟨S741, .i32⟩
  | 34 => ⟨S_, .i32⟩
  | 35 => ⟨S741, .i32⟩
  | 36 => ⟨S741, .i32⟩
  | 37 => ⟨S741, .i32⟩
  | 38 => ⟨S741x1, .i32⟩
  | 39 => ⟨S741x1, .i32⟩
  | 40 => ⟨S741x2, .i32⟩
  | 41 => ⟨S741x192x128, .i32⟩
  | 42 => ⟨S_, .i32⟩
  | 43 => ⟨S741, .i32⟩
  | 44 => ⟨S741, .i32⟩
  | 45 => ⟨S741, .i32⟩
  | 46 => ⟨S_, .i32⟩
  | 47 => ⟨S741, .i32⟩
  | 48 => ⟨S741, .i32⟩
  | 49 => ⟨S741, .i32⟩
  | 50 => ⟨S741x1, .i32⟩
  | 51 => ⟨S741x1, .i32⟩
  | 52 => ⟨S741x2, .i32⟩
  | 53 => ⟨S741x192x128, .i32⟩
  | 54 => ⟨S_, .i32⟩
  | 55 => ⟨S741x192x128, .i32⟩
  | 56 => ⟨S_, .i32⟩
  | 57 => ⟨S741x192x128, .i32⟩
  | 58 => ⟨S741x192x128, .i32⟩
  | 59 => ⟨S_, .i32⟩
  | 60 => ⟨S741x192x128, .i32⟩
  | 61 => ⟨S741x192x128, .i32⟩
  | 62 => ⟨S_, .i32⟩
  | 63 => ⟨S741x192x128, .i32⟩
  | 64 => ⟨S741x192x128, .i32⟩
  | 65 => ⟨S_, .i32⟩
  | 66 => ⟨S741x192x128, .i32⟩
  | 67 => ⟨S741x192x128, .i32⟩
  | 68 => ⟨S_, .i32⟩
  | 69 => ⟨S741x192x128, .i32⟩
  | 70 => ⟨S741x192x128, .i1⟩
  | 71 => ⟨S_, .i32⟩
  | 72 => ⟨S741x192x128, .i32⟩
  | 73 => ⟨S741x192x128, .i32⟩
  | 74 => ⟨S741x192x128, .i32⟩
  | 75 => ⟨S_, .i32⟩
  | 76 => ⟨S741x192x128, .i32⟩
  | 77 => ⟨S741x192x128, .i1⟩
  | 78 => ⟨S_, .i32⟩
  | 79 => ⟨S741x192x128, .i32⟩
  | 80 => ⟨S741x192x128, .i32⟩
  | 81 => ⟨S741x192x128, .i32⟩
  | 82 => ⟨S741x192x128, .i32⟩
  | 83 => ⟨S741x192x128, .i32⟩
  | 84 => ⟨S_, .i32⟩
  | 85 => ⟨S741x192x128, .i32⟩
  | 86 => ⟨S741x192x128, .i32⟩
  | 87 => ⟨S_, .i32⟩
  | 88 => ⟨S741x192x128, .i32⟩
  | 89 => ⟨S741x192x128, .i32⟩
  | 90 => ⟨S_, .i32⟩
  | 91 => ⟨S741x192x128, .i32⟩
  | 92 => ⟨S741x192x128, .i32⟩
  | 93 => ⟨S_, .i32⟩
  | 94 => ⟨S741x192x128, .i32⟩
  | 95 => ⟨S741x192x128, .i32⟩
  | 96 => ⟨S_, .i32⟩
  | 97 => ⟨S741x192x128, .i32⟩
  | 98 => ⟨S741x192x128, .i1⟩
  | 99 => ⟨S_, .i32⟩
  | 100 => ⟨S741x192x128, .i32⟩
  | 101 => ⟨S741x192x128, .i32⟩
  | 102 => ⟨S741x192x128, .i32⟩
  | 103 => ⟨S_, .i32⟩
  | 104 => ⟨S741x192x128, .i32⟩
  | 105 => ⟨S741x192x128, .i1⟩
  | 106 => ⟨S_, .i32⟩
  | 107 => ⟨S741x192x128, .i32⟩
  | 108 => ⟨S741x192x128, .i32⟩
  | 109 => ⟨S741x192x128, .i32⟩
  | 110 => ⟨S741x192x128, .i32⟩
  | 111 => ⟨S741x192x128, .i32⟩
  | 112 => ⟨S_, .i32⟩
  | 113 => ⟨S741x192x128, .i32⟩
  | 114 => ⟨S741x192x128, .i32⟩
  | 115 => ⟨S_, .i32⟩
  | 116 => ⟨S741x192x128, .i32⟩
  | 117 => ⟨S741x192x128, .i32⟩
  | 118 => ⟨S_, .i32⟩
  | 119 => ⟨S741x192x128, .i32⟩
  | 120 => ⟨S741x192x128, .i32⟩
  | 121 => ⟨S_, .i32⟩
  | 122 => ⟨S741x192x128, .i32⟩
  | 123 => ⟨S741x192x128, .i32⟩
  | 124 => ⟨S_, .i32⟩
  | 125 => ⟨S741x192x128, .i32⟩
  | 126 => ⟨S741x192x128, .i1⟩
  | 127 => ⟨S_, .i32⟩
  | _ => ⟨S1, .f32⟩

abbrev hbmTy0_1 (i : Nat) : BufTy := match i % 128 with
  | 0 => ⟨S741x192x128, .i32⟩
  | 1 => ⟨S741x192x128, .i32⟩
  | 2 => ⟨S741x192x128, .i32⟩
  | 3 => ⟨S_, .i32⟩
  | 4 => ⟨S741x192x128, .i32⟩
  | 5 => ⟨S741x192x128, .i1⟩
  | 6 => ⟨S_, .i32⟩
  | 7 => ⟨S741x192x128, .i32⟩
  | 8 => ⟨S741x192x128, .i32⟩
  | 9 => ⟨S741x192x128, .i32⟩
  | 10 => ⟨S741x192x128, .i32⟩
  | 11 => ⟨S741x192x128, .i32⟩
  | 12 => ⟨S_, .i32⟩
  | 13 => ⟨S741x192x128, .i32⟩
  | 14 => ⟨S741x192x128, .i32⟩
  | 15 => ⟨S_, .i32⟩
  | 16 => ⟨S741x192x128, .i32⟩
  | 17 => ⟨S741x192x128, .i32⟩
  | 18 => ⟨S_, .i32⟩
  | 19 => ⟨S741x192x128, .i32⟩
  | 20 => ⟨S741x192x128, .i32⟩
  | 21 => ⟨S_, .i32⟩
  | 22 => ⟨S741x192x128, .i32⟩
  | 23 => ⟨S741x192x128, .i32⟩
  | 24 => ⟨S_, .i32⟩
  | 25 => ⟨S741x192x128, .i32⟩
  | 26 => ⟨S741x192x128, .i1⟩
  | 27 => ⟨S_, .i32⟩
  | 28 => ⟨S741x192x128, .i32⟩
  | 29 => ⟨S741x192x128, .i32⟩
  | 30 => ⟨S741x192x128, .i32⟩
  | 31 => ⟨S_, .i32⟩
  | 32 => ⟨S741x192x128, .i32⟩
  | 33 => ⟨S741x192x128, .i1⟩
  | 34 => ⟨S_, .i32⟩
  | 35 => ⟨S741x192x128, .i32⟩
  | 36 => ⟨S741x192x128, .i32⟩
  | 37 => ⟨S741x192x128, .i32⟩
  | 38 => ⟨S741x192x128, .i32⟩
  | 39 => ⟨S741x192x128, .i32⟩
  | 40 => ⟨S_, .i32⟩
  | 41 => ⟨S741x192x128, .i32⟩
  | 42 => ⟨S741x192x128, .i32⟩
  | 43 => ⟨S_, .i32⟩
  | 44 => ⟨S741x192x128, .i32⟩
  | 45 => ⟨S741x192x128, .i32⟩
  | 46 => ⟨S_, .i32⟩
  | 47 => ⟨S741x192x128, .i32⟩
  | 48 => ⟨S741x192x128, .i32⟩
  | 49 => ⟨S_, .i32⟩
  | 50 => ⟨S741x192x128, .i32⟩
  | 51 => ⟨S741x192x128, .i32⟩
  | 52 => ⟨S_, .i32⟩
  | 53 => ⟨S741x192x128, .i32⟩
  | 54 => ⟨S741x192x128, .i1⟩
  | 55 => ⟨S_, .i32⟩
  | 56 => ⟨S741x192x128, .i32⟩
  | 57 => ⟨S741x192x128, .i32⟩
  | 58 => ⟨S741x192x128, .i32⟩
  | 59 => ⟨S_, .i32⟩
  | 60 => ⟨S741x192x128, .i32⟩
  | 61 => ⟨S741x192x128, .i1⟩
  | 62 => ⟨S_, .i32⟩
  | 63 => ⟨S741x192x128, .i32⟩
  | 64 => ⟨S741x192x128, .i32⟩
  | 65 => ⟨S741x192x128, .i32⟩
  | 66 => ⟨S741x192x128, .i32⟩
  | 67 => ⟨S741x192x128, .i32⟩
  | 68 => ⟨S_, .i32⟩
  | 69 => ⟨S741x192x128, .i32⟩
  | 70 => ⟨S741x192x128, .i32⟩
  | 71 => ⟨S_, .i32⟩
  | 72 => ⟨S741x192x128, .i32⟩
  | 73 => ⟨S741x192x128, .i32⟩
  | 74 => ⟨S_, .i32⟩
  | 75 => ⟨S741x192x128, .i32⟩
  | 76 => ⟨S741x192x128, .i32⟩
  | 77 => ⟨S_, .i32⟩
  | 78 => ⟨S741x192x128, .i32⟩
  | 79 => ⟨S741x192x128, .i32⟩
  | 80 => ⟨S_, .i32⟩
  | 81 => ⟨S741x192x128, .i32⟩
  | 82 => ⟨S741x192x128, .i1⟩
  | 83 => ⟨S_, .i32⟩
  | 84 => ⟨S741x192x128, .i32⟩
  | 85 => ⟨S741x192x128, .i32⟩
  | 86 => ⟨S741x192x128, .i32⟩
  | 87 => ⟨S_, .i32⟩
  | 88 => ⟨S741x192x128, .i32⟩
  | 89 => ⟨S741x192x128, .i1⟩
  | 90 => ⟨S_, .i32⟩
  | 91 => ⟨S741x192x128, .i32⟩
  | 92 => ⟨S741x192x128, .i32⟩
  | 93 => ⟨S741x192x128, .i32⟩
  | 94 => ⟨S741x192x128, .i32⟩
  | 95 => ⟨S741x192x128, .i32⟩
  | 96 => ⟨S_, .i32⟩
  | 97 => ⟨S741x192x128, .i32⟩
  | 98 => ⟨S741x192x128, .i32⟩
  | 99 => ⟨S_, .i32⟩
  | 100 => ⟨S741x192x128, .i32⟩
  | 101 => ⟨S741x192x128, .i32⟩
  | 102 => ⟨S_, .i32⟩
  | 103 => ⟨S741x192x128, .i32⟩
  | 104 => ⟨S741x192x128, .i32⟩
  | 105 => ⟨S_, .i32⟩
  | 106 => ⟨S741x192x128, .i32⟩
  | 107 => ⟨S741x192x128, .i32⟩
  | 108 => ⟨S_, .i32⟩
  | 109 => ⟨S741x192x128, .i32⟩
  | 110 => ⟨S741x192x128, .i1⟩
  | 111 => ⟨S_, .i32⟩
  | 112 => ⟨S741x192x128, .i32⟩
  | 113 => ⟨S741x192x128, .i32⟩
  | 114 => ⟨S741x192x128, .i32⟩
  | 115 => ⟨S_, .i32⟩
  | 116 => ⟨S741x192x128, .i32⟩
  | 117 => ⟨S741x192x128, .i1⟩
  | 118 => ⟨S_, .i32⟩
  | 119 => ⟨S741x192x128, .i32⟩
  | 120 => ⟨S741x192x128, .i32⟩
  | 121 => ⟨S741x192x128, .i32⟩
  | 122 => ⟨S741x192x128, .i32⟩
  | 123 => ⟨S741x192x128, .i32⟩
  | 124 => ⟨S_, .i32⟩
  | 125 => ⟨S741x192x128, .i32⟩
  | 126 => ⟨S741x192x128, .i32⟩
  | 127 => ⟨S_, .i32⟩
  | _ => ⟨S1, .f32⟩

abbrev hbmTy0_2 (i : Nat) : BufTy := match i % 128 with
  | 0 => ⟨S741x192x128, .i32⟩
  | 1 => ⟨S741x192x128, .i32⟩
  | 2 => ⟨S_, .i32⟩
  | 3 => ⟨S741x192x128, .i32⟩
  | 4 => ⟨S741x192x128, .i32⟩
  | 5 => ⟨S_, .i32⟩
  | 6 => ⟨S741x192x128, .i32⟩
  | 7 => ⟨S741x192x128, .i32⟩
  | 8 => ⟨S_, .i32⟩
  | 9 => ⟨S741x192x128, .i32⟩
  | 10 => ⟨S741x192x128, .i1⟩
  | 11 => ⟨S_, .i32⟩
  | 12 => ⟨S741x192x128, .i32⟩
  | 13 => ⟨S741x192x128, .i32⟩
  | 14 => ⟨S741x192x128, .i32⟩
  | 15 => ⟨S_, .i32⟩
  | 16 => ⟨S741x192x128, .i32⟩
  | 17 => ⟨S741x192x128, .i1⟩
  | 18 => ⟨S_, .i32⟩
  | 19 => ⟨S741x192x128, .i32⟩
  | 20 => ⟨S741x192x128, .i32⟩
  | 21 => ⟨S741x192x128, .i32⟩
  | 22 => ⟨S741x192x128, .i32⟩
  | 23 => ⟨S741x192x128, .i32⟩
  | 24 => ⟨S741x192x128, .f32⟩
  | 25 => ⟨S39x192x128, .f32⟩
  | 26 => ⟨S_, .i32⟩
  | 27 => ⟨S741, .i32⟩
  | 28 => ⟨S741, .i32⟩
  | 29 => ⟨S741, .i32⟩
  | 30 => ⟨S741x1, .i32⟩
  | 31 => ⟨S741x192x128, .f32⟩
  | 32 => ⟨S741x192x128, .f32⟩
  | 33 => ⟨S_, .i32⟩
  | 34 => ⟨S741, .i32⟩
  | 35 => ⟨S741, .i32⟩
  | 36 => ⟨S741, .i32⟩
  | 37 => ⟨S741x1, .i32⟩
  | 38 => ⟨S741x192x128, .f32⟩
  | 39 => ⟨S741x192x128, .f32⟩
  | 40 => ⟨S39x192x128, .f32⟩
  | 41 => ⟨S_, .f32⟩
  | 42 => ⟨S192x128, .f32⟩
  | 43 => ⟨S_, .f32⟩
  | 44 => ⟨S192x128, .f32⟩
  | 45 => ⟨S192x128, .f32⟩
  | 46 => ⟨S_, .f32⟩
  | 47 => ⟨S192x128, .f32⟩
  | 48 => ⟨S192x128, .f32⟩
  | _ => ⟨S1, .f32⟩

abbrev hbmTy (i : Nat) : BufTy := match i / 128 with
  | 0 => hbmTy0_0 i
  | 1 => hbmTy0_1 i
  | 2 => hbmTy0_2 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c_10 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_11 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_12 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_13 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_14 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_15 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_16 : Ref sig .tc := ⟨.hbm, 54, rfl⟩
abbrev main_v34 : Ref sig .tc := ⟨.hbm, 55, rfl⟩
abbrev main_c_17 : Ref sig .tc := ⟨.hbm, 56, rfl⟩
abbrev main_v35 : Ref sig .tc := ⟨.hbm, 57, rfl⟩
abbrev main_v36 : Ref sig .tc := ⟨.hbm, 58, rfl⟩
abbrev main_c_18 : Ref sig .tc := ⟨.hbm, 59, rfl⟩
abbrev main_v37 : Ref sig .tc := ⟨.hbm, 60, rfl⟩
abbrev main_v38 : Ref sig .tc := ⟨.hbm, 61, rfl⟩
abbrev main_c_19 : Ref sig .tc := ⟨.hbm, 62, rfl⟩
abbrev main_v39 : Ref sig .tc := ⟨.hbm, 63, rfl⟩
abbrev main_v40 : Ref sig .tc := ⟨.hbm, 64, rfl⟩
abbrev main_c_20 : Ref sig .tc := ⟨.hbm, 65, rfl⟩
abbrev main_v41 : Ref sig .tc := ⟨.hbm, 66, rfl⟩
abbrev main_v42 : Ref sig .tc := ⟨.hbm, 67, rfl⟩
abbrev main_c_21 : Ref sig .tc := ⟨.hbm, 68, rfl⟩
abbrev main_v43 : Ref sig .tc := ⟨.hbm, 69, rfl⟩
abbrev main_v44 : Ref sig .tc := ⟨.hbm, 70, rfl⟩
abbrev main_c_22 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_23 : Ref sig .tc := ⟨.hbm, 75, rfl⟩
abbrev main_v48 : Ref sig .tc := ⟨.hbm, 76, rfl⟩
abbrev main_v49 : Ref sig .tc := ⟨.hbm, 77, rfl⟩
abbrev main_c_24 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_25 : Ref sig .tc := ⟨.hbm, 84, rfl⟩
abbrev main_v55 : Ref sig .tc := ⟨.hbm, 85, rfl⟩
abbrev main_v56 : Ref sig .tc := ⟨.hbm, 86, rfl⟩
abbrev main_c_26 : Ref sig .tc := ⟨.hbm, 87, rfl⟩
abbrev main_v57 : Ref sig .tc := ⟨.hbm, 88, rfl⟩
abbrev main_v58 : Ref sig .tc := ⟨.hbm, 89, rfl⟩
abbrev main_c_27 : Ref sig .tc := ⟨.hbm, 90, rfl⟩
abbrev main_v59 : Ref sig .tc := ⟨.hbm, 91, rfl⟩
abbrev main_v60 : Ref sig .tc := ⟨.hbm, 92, rfl⟩
abbrev main_c_28 : Ref sig .tc := ⟨.hbm, 93, rfl⟩
abbrev main_v61 : Ref sig .tc := ⟨.hbm, 94, rfl⟩
abbrev main_v62 : Ref sig .tc := ⟨.hbm, 95, rfl⟩
abbrev main_c_29 : Ref sig .tc := ⟨.hbm, 96, rfl⟩
abbrev main_v63 : Ref sig .tc := ⟨.hbm, 97, rfl⟩
abbrev main_v64 : Ref sig .tc := ⟨.hbm, 98, rfl⟩
abbrev main_c_30 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_31 : Ref sig .tc := ⟨.hbm, 103, rfl⟩
abbrev main_v68 : Ref sig .tc := ⟨.hbm, 104, rfl⟩
abbrev main_v69 : Ref sig .tc := ⟨.hbm, 105, rfl⟩
abbrev main_c_32 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_33 : Ref sig .tc := ⟨.hbm, 112, rfl⟩
abbrev main_v75 : Ref sig .tc := ⟨.hbm, 113, rfl⟩
abbrev main_v76 : Ref sig .tc := ⟨.hbm, 114, rfl⟩
abbrev main_c_34 : Ref sig .tc := ⟨.hbm, 115, rfl⟩
abbrev main_v77 : Ref sig .tc := ⟨.hbm, 116, rfl⟩
abbrev main_v78 : Ref sig .tc := ⟨.hbm, 117, rfl⟩
abbrev main_c_35 : Ref sig .tc := ⟨.hbm, 118, rfl⟩
abbrev main_v79 : Ref sig .tc := ⟨.hbm, 119, rfl⟩
abbrev main_v80 : Ref sig .tc := ⟨.hbm, 120, rfl⟩
abbrev main_c_36 : Ref sig .tc := ⟨.hbm, 121, rfl⟩
abbrev main_v81 : Ref sig .tc := ⟨.hbm, 122, rfl⟩
abbrev main_v82 : Ref sig .tc := ⟨.hbm, 123, rfl⟩
abbrev main_c_37 : Ref sig .tc := ⟨.hbm, 124, rfl⟩
abbrev main_v83 : Ref sig .tc := ⟨.hbm, 125, rfl⟩
abbrev main_v84 : Ref sig .tc := ⟨.hbm, 126, rfl⟩
abbrev main_c_38 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_39 : Ref sig .tc := ⟨.hbm, 131, rfl⟩
abbrev main_v88 : Ref sig .tc := ⟨.hbm, 132, rfl⟩
abbrev main_v89 : Ref sig .tc := ⟨.hbm, 133, rfl⟩
abbrev main_c_40 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_c_41 : Ref sig .tc := ⟨.hbm, 140, rfl⟩
abbrev main_v95 : Ref sig .tc := ⟨.hbm, 141, rfl⟩
abbrev main_v96 : Ref sig .tc := ⟨.hbm, 142, rfl⟩
abbrev main_c_42 : Ref sig .tc := ⟨.hbm, 143, rfl⟩
abbrev main_v97 : Ref sig .tc := ⟨.hbm, 144, rfl⟩
abbrev main_v98 : Ref sig .tc := ⟨.hbm, 145, rfl⟩
abbrev main_c_43 : Ref sig .tc := ⟨.hbm, 146, rfl⟩
abbrev main_v99 : Ref sig .tc := ⟨.hbm, 147, rfl⟩
abbrev main_v100 : Ref sig .tc := ⟨.hbm, 148, rfl⟩
abbrev main_c_44 : Ref sig .tc := ⟨.hbm, 149, rfl⟩
abbrev main_v101 : Ref sig .tc := ⟨.hbm, 150, rfl⟩
abbrev main_v102 : Ref sig .tc := ⟨.hbm, 151, rfl⟩
abbrev main_c_45 : Ref sig .tc := ⟨.hbm, 152, rfl⟩
abbrev main_v103 : Ref sig .tc := ⟨.hbm, 153, rfl⟩
abbrev main_v104 : Ref sig .tc := ⟨.hbm, 154, rfl⟩
abbrev main_c_46 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_47 : Ref sig .tc := ⟨.hbm, 159, rfl⟩
abbrev main_v108 : Ref sig .tc := ⟨.hbm, 160, rfl⟩
abbrev main_v109 : Ref sig .tc := ⟨.hbm, 161, rfl⟩
abbrev main_c_48 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_c_49 : Ref sig .tc := ⟨.hbm, 168, rfl⟩
abbrev main_v115 : Ref sig .tc := ⟨.hbm, 169, rfl⟩
abbrev main_v116 : Ref sig .tc := ⟨.hbm, 170, rfl⟩
abbrev main_c_50 : Ref sig .tc := ⟨.hbm, 171, rfl⟩
abbrev main_v117 : Ref sig .tc := ⟨.hbm, 172, rfl⟩
abbrev main_v118 : Ref sig .tc := ⟨.hbm, 173, rfl⟩
abbrev main_c_51 : Ref sig .tc := ⟨.hbm, 174, rfl⟩
abbrev main_v119 : Ref sig .tc := ⟨.hbm, 175, rfl⟩
abbrev main_v120 : Ref sig .tc := ⟨.hbm, 176, rfl⟩
abbrev main_c_52 : Ref sig .tc := ⟨.hbm, 177, rfl⟩
abbrev main_v121 : Ref sig .tc := ⟨.hbm, 178, rfl⟩
abbrev main_v122 : Ref sig .tc := ⟨.hbm, 179, rfl⟩
abbrev main_c_53 : Ref sig .tc := ⟨.hbm, 180, rfl⟩
abbrev main_v123 : Ref sig .tc := ⟨.hbm, 181, rfl⟩
abbrev main_v124 : Ref sig .tc := ⟨.hbm, 182, rfl⟩
abbrev main_c_54 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_c_55 : Ref sig .tc := ⟨.hbm, 187, rfl⟩
abbrev main_v128 : Ref sig .tc := ⟨.hbm, 188, rfl⟩
abbrev main_v129 : Ref sig .tc := ⟨.hbm, 189, rfl⟩
abbrev main_c_56 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_c_57 : Ref sig .tc := ⟨.hbm, 196, rfl⟩
abbrev main_v135 : Ref sig .tc := ⟨.hbm, 197, rfl⟩
abbrev main_v136 : Ref sig .tc := ⟨.hbm, 198, rfl⟩
abbrev main_c_58 : Ref sig .tc := ⟨.hbm, 199, rfl⟩
abbrev main_v137 : Ref sig .tc := ⟨.hbm, 200, rfl⟩
abbrev main_v138 : Ref sig .tc := ⟨.hbm, 201, rfl⟩
abbrev main_c_59 : Ref sig .tc := ⟨.hbm, 202, rfl⟩
abbrev main_v139 : Ref sig .tc := ⟨.hbm, 203, rfl⟩
abbrev main_v140 : Ref sig .tc := ⟨.hbm, 204, rfl⟩
abbrev main_c_60 : Ref sig .tc := ⟨.hbm, 205, rfl⟩
abbrev main_v141 : Ref sig .tc := ⟨.hbm, 206, rfl⟩
abbrev main_v142 : Ref sig .tc := ⟨.hbm, 207, rfl⟩
abbrev main_c_61 : Ref sig .tc := ⟨.hbm, 208, rfl⟩
abbrev main_v143 : Ref sig .tc := ⟨.hbm, 209, rfl⟩
abbrev main_v144 : Ref sig .tc := ⟨.hbm, 210, rfl⟩
abbrev main_c_62 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_c_63 : Ref sig .tc := ⟨.hbm, 215, rfl⟩
abbrev main_v148 : Ref sig .tc := ⟨.hbm, 216, rfl⟩
abbrev main_v149 : Ref sig .tc := ⟨.hbm, 217, rfl⟩
abbrev main_c_64 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_c_65 : Ref sig .tc := ⟨.hbm, 224, rfl⟩
abbrev main_v155 : Ref sig .tc := ⟨.hbm, 225, rfl⟩
abbrev main_v156 : Ref sig .tc := ⟨.hbm, 226, rfl⟩
abbrev main_c_66 : Ref sig .tc := ⟨.hbm, 227, rfl⟩
abbrev main_v157 : Ref sig .tc := ⟨.hbm, 228, rfl⟩
abbrev main_v158 : Ref sig .tc := ⟨.hbm, 229, rfl⟩
abbrev main_c_67 : Ref sig .tc := ⟨.hbm, 230, rfl⟩
abbrev main_v159 : Ref sig .tc := ⟨.hbm, 231, rfl⟩
abbrev main_v160 : Ref sig .tc := ⟨.hbm, 232, rfl⟩
abbrev main_c_68 : Ref sig .tc := ⟨.hbm, 233, rfl⟩
abbrev main_v161 : Ref sig .tc := ⟨.hbm, 234, rfl⟩
abbrev main_v162 : Ref sig .tc := ⟨.hbm, 235, rfl⟩
abbrev main_c_69 : Ref sig .tc := ⟨.hbm, 236, rfl⟩
abbrev main_v163 : Ref sig .tc := ⟨.hbm, 237, rfl⟩
abbrev main_v164 : Ref sig .tc := ⟨.hbm, 238, rfl⟩
abbrev main_c_70 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_c_71 : Ref sig .tc := ⟨.hbm, 243, rfl⟩
abbrev main_v168 : Ref sig .tc := ⟨.hbm, 244, rfl⟩
abbrev main_v169 : Ref sig .tc := ⟨.hbm, 245, rfl⟩
abbrev main_c_72 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_c_73 : Ref sig .tc := ⟨.hbm, 252, rfl⟩
abbrev main_v175 : Ref sig .tc := ⟨.hbm, 253, rfl⟩
abbrev main_v176 : Ref sig .tc := ⟨.hbm, 254, rfl⟩
abbrev main_c_74 : Ref sig .tc := ⟨.hbm, 255, rfl⟩
abbrev main_v177 : Ref sig .tc := ⟨.hbm, 256, rfl⟩
abbrev main_v178 : Ref sig .tc := ⟨.hbm, 257, rfl⟩
abbrev main_c_75 : Ref sig .tc := ⟨.hbm, 258, rfl⟩
abbrev main_v179 : Ref sig .tc := ⟨.hbm, 259, rfl⟩
abbrev main_v180 : Ref sig .tc := ⟨.hbm, 260, rfl⟩
abbrev main_c_76 : Ref sig .tc := ⟨.hbm, 261, rfl⟩
abbrev main_v181 : Ref sig .tc := ⟨.hbm, 262, rfl⟩
abbrev main_v182 : Ref sig .tc := ⟨.hbm, 263, rfl⟩
abbrev main_c_77 : Ref sig .tc := ⟨.hbm, 264, rfl⟩
abbrev main_v183 : Ref sig .tc := ⟨.hbm, 265, rfl⟩
abbrev main_v184 : Ref sig .tc := ⟨.hbm, 266, rfl⟩
abbrev main_c_78 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_c_79 : Ref sig .tc := ⟨.hbm, 271, rfl⟩
abbrev main_v188 : Ref sig .tc := ⟨.hbm, 272, rfl⟩
abbrev main_v189 : Ref sig .tc := ⟨.hbm, 273, rfl⟩
abbrev main_c_80 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_c_81 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_c_82 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_cst : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_cst_83 : Ref sig .tc := ⟨.hbm, 302, rfl⟩
abbrev main_v214 : Ref sig .tc := ⟨.hbm, 303, rfl⟩
abbrev main_v215 : Ref sig .tc := ⟨.hbm, 304, rfl⟩

abbrev nD : Nat := 1
abbrev τ : Topo := Topo.v7x

variable {F : FTy → Type} [FloatOps F]
-- ==== Proof.KernelFrame.lean ====
/- The kernel before its idealization: it runs to its end and leaves its arguments and its semaphores as they were.
   What it leaves in its two results is not stated here, so each is held at some contents throughout. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The separation algebra the kernel runs in. -/
abbrev 𝕄 (F : FTy → Type) := MT nD τ sig Unit (Elt F) ℕ (UR sig nD τ) ℕ

variable (m : (ℓ : Loc nD τ sig) → Buf (Elt F) ℓ) (ρ : Dev nD → PrngReg)

/-! ## The arguments after the run -/

/-- A run that leaves every array the pipeline reads as it found it leaves the three arguments as they were. -/
theorem frame_of_arrays (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The buffers of a step -/

/-- The staging buffers of the five windows at step `t`. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S39x40x8x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S39x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S741x8x128 .f32 := win0_4.stage (cfg0.slots t 4)
abbrev hs0_4 (t : Fin cfg0.N) : (ms0_4 t).IsWhole := hstage0_4 ((cfg0.slots t 4).cast nbuf0_4)
/-- The weights' scratch buffer. -/
abbrev scM0_0 : Memref sig .tc .vmem S39x8x128 .f32 := Memref.whole cc0_scratch0

/-- Between steps the kernel holds its scratch buffer and the generator's register, at any contents. -/
theorem PhiA0_eq (c : Dev nD) :
    (Pipeline.ΦA spec0 c : sProp (𝕄 F))
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 4300000 in
/-- One step of the kernel, on buffers that are whole: it reads the three inputs and hands them back unchanged, and
    hands the two outputs and the scratch buffer back at some contents. -/
theorem kernelRun0_A (c : Dev nD) (i : grid0.Coords) (arg1 : Memref sig .tc .smem S1 .f32) (harg1 : arg1.IsWhole) (arg2 : Memref sig .tc .vmem S39x40x8x128 .i32) (harg2 : arg2.IsWhole) (arg3 : Memref sig .tc .vmem S39x8x128 .f32) (harg3 : arg3.IsWhole) (arg4 : Memref sig .tc .vmem S8x128 .f32) (harg4 : arg4.IsWhole) (arg5 : Memref sig .tc .vmem S741x8x128 .f32) (harg5 : arg5.IsWhole) (arg6 : Memref sig .tc .vmem S39x8x128 .f32) (harg6 : arg6.IsWhole)
    (x0 : Vec F S1 .f32) (x1 : Vec F S39x40x8x128 .i32) (x2 : Vec F S39x8x128 .f32) :
      ∀ (E : Set ℕ) (K : PUnit → sProp (𝕄 F)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_ffm_pairs i arg1 harg1 arg2 harg2 arg3 harg3 arg4 harg4 arg5 harg5 arg6 harg6) K := by
    intro E K
    simp only [cc0_ffm_pairs_eq_skeleton]; unfold cc0_ffm_pairs_skel
    simp only [k0_part118_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    iexists _, _; isplitr; swap; · iexact HS0
    ipureintro; rfl

/-! ## The pipeline's proof data -/

/-- The windows whose contents are not stated: the two outputs. -/
def forgets0 : Fin 5 → Bool := fun w => w.val == 3 || w.val == 4

/-- What each step finds and leaves: the inputs' blocks stay, the two outputs hold some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The arrays are those the launch finds. -/
theorem A_eq (c : Dev nD) (w : Fin cfg0.W) : (dats m 0 c).A w = V m c (Pipeline.arrRef spec0 w) := by
  dsimp only [dats]

/-- What a step leaves in each input's buffer: its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- What a step finds in each input's buffer: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What a step is given. -/
def bodyPre (c : Dev nD) (t : Fin cfg0.N) : sProp (𝕄 F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d))

/-- What a step returns. -/
def bodyPost (c : Dev nD) (t : Fin cfg0.N) : sProp (𝕄 F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d))

/-- Every step takes what it is given to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, H3, H4, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  iexact H4

/-- The body the pipeline calls at step `t`. -/
theorem defs₀_row (t : Fin cfg0.N) :
    defs₀ (F := F) .tc cfg0.body (cfg0.bodyArgs t (cfg0.slots t)) = bodyAt0 t := by
  unfold defs₀; rw [Defs.onTc_tc]

/-- The same, as the pipeline's theorem asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The whole run: the pipeline's arrays that are read stay as they were, and every semaphore ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The three arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_arrays m ρ (fun c => (dats m 0 c).toRForget forgets0) (A_eq m) ((θ_run defs _ _).mono (fun _ h => h.1) (run_main_quiescent m ρ))

/-- The arguments end as they were and every semaphore at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Own

end
-- ==== Proof.Word.lean ====
/- The four-bit codes of a word, read two ways: as the kernel's bf16 halves and as the reference's integers. -/
module

public import Idealize.ShloMosaic.Lib.Pointwise

@[expose] public section

noncomputable section

namespace Cert.Words

open Idealize.ShloMosaic

/-- Code `k` of a word: its bits `4k` to `4k + 3`. -/
def nib (w : BitVec 32) (k : ℕ) : BitVec 4 := w.extractLsb' (4 * k) 4

/-- The bf16 whose bits are 136's with a code flipped in, less 136, is the code read as a signed integer. -/
theorem code_value (n : BitVec 4) :
    Ideal.ofBits .bf16 (0x4308#16 ^^^ n.setWidth 16) - Ideal.ofBits .bf16 0x4308#16 = ((n.toInt : ℝ) : EReal) := by
  obtain ⟨⟨v, hv⟩⟩ := n
  have hv' : v < 16 := hv
  interval_cases v <;> simp [Ideal.ofBits, Ideal.ieee, BitVec.toInt, -EReal.coe_mul] <;> norm_num <;>
    (refine (EReal.coe_sub _ _).symm.trans ?_; norm_num)

/-- One half of a word shifted and masked as the kernel does is 136's bits with one code flipped in. -/
theorem half_bits (w : BitVec 32) (j h : ℕ) (hj : j < 4) (hh : h < 2) :
    (((w >>> (4 * j)) &&& 983055#32) ^^^ 1124614920#32).extractLsb' (16 * h) 16
      = 0x4308#16 ^^^ (nib w (j + 4 * h)).setWidth 16 := by
  apply BitVec.eq_of_getLsbD_eq
  intro i hi
  unfold nib
  interval_cases j <;> interval_cases h <;> interval_cases i <;> simp

/-- A word shifted and masked as the reference does is the code. -/
theorem ref_bits (w : BitVec 32) (k : ℕ) (hk : k < 8) :
    (w.sshiftRight (4 * k)) &&& 15#32 = (nib w k).setWidth 32 := by
  apply BitVec.eq_of_getLsbD_eq
  intro i hi
  unfold nib
  interval_cases k <;> interval_cases i <;> simp [BitVec.getElem_sshiftRight]

/-- The reference's signed code: sixteen is taken off a code of eight or more. -/
theorem signed_code (n : BitVec 4) :
    (if (8#32).sle (n.setWidth 32) then n.setWidth 32 - 16#32 else n.setWidth 32) = BitVec.ofInt 32 n.toInt := by
  revert n; decide

/-- A code lies between -8 and 7. -/
theorem code_bounds (n : BitVec 4) : -8 ≤ n.toInt ∧ n.toInt ≤ 7 := by
  revert n; decide

/-- The kernel's reading of one half of a word's low nibbles. -/
def khalf (x : BitVec 32) (h : ℕ) : EReal :=
  Ideal.ofBits .bf16 (((x &&& 983055#32) ^^^ 1124614920#32).extractLsb' (16 * h) 16) - Ideal.ofBits .bf16 0x4308#16

/-- The kernel's reading is the code as a signed integer. -/
theorem khalf_eq (w : BitVec 32) (j h : ℕ) (hj : j < 4) (hh : h < 2) :
    khalf (w >>> (4 * j)) h = (((nib w (j + 4 * h)).toInt : ℝ) : EReal) := by
  unfold khalf; rw [half_bits w j h hj hh, code_value]

/-- Four codes of two words multiplied and added as the kernel does. -/
def kdot (a b : BitVec 32) (h : ℕ) : EReal :=
  (khalf a h * khalf b h + khalf (a >>> 4) h * khalf (b >>> 4) h)
    + (khalf (a >>> 8) h * khalf (b >>> 8) h + khalf (a >>> 12) h * khalf (b >>> 12) h)

/-- The reference's reading of code `k`. -/
def rcode (w : BitVec 32) (k : ℕ) : BitVec 32 :=
  if (8#32).sle ((w.sshiftRight (4 * k)) &&& 15#32) then ((w.sshiftRight (4 * k)) &&& 15#32) - 16#32
    else (w.sshiftRight (4 * k)) &&& 15#32

/-- The reference's reading is the code as a signed integer. -/
theorem rcode_eq (w : BitVec 32) (k : ℕ) (hk : k < 8) : rcode w k = BitVec.ofInt 32 (nib w k).toInt := by
  unfold rcode; rw [ref_bits w k hk, signed_code]

/-- The reference's sum of the first `n` products of two words' codes. -/
def rdot (a b : BitVec 32) : ℕ → BitVec 32
  | 0 => 0#32
  | n + 1 => rdot a b n + rcode a n * rcode b n

/-- That sum over the integers. -/
def idot (a b : BitVec 32) : ℕ → ℤ
  | 0 => 0
  | n + 1 => idot a b n + (nib a n).toInt * (nib b n).toInt

/-- The reference's sum does not wrap. -/
theorem rdot_eq (a b : BitVec 32) : ∀ n ≤ 8, rdot a b n = BitVec.ofInt 32 (idot a b n)
  | 0, _ => rfl
  | n + 1, h => by
    rw [rdot, idot, rdot_eq a b n (by omega), rcode_eq a n (by omega), rcode_eq b n (by omega),
      BitVec.ofInt_add, BitVec.ofInt_mul]

/-- The sum of `n` products lies within 64 `n`. -/
theorem idot_bounds (a b : BitVec 32) : ∀ n : ℕ, -(64 * (n : ℤ)) ≤ idot a b n ∧ idot a b n ≤ 64 * n
  | 0 => ⟨le_refl _, le_refl _⟩
  | n + 1 => by
    have ih := idot_bounds a b n
    have hp : -64 ≤ (nib a n).toInt * (nib b n).toInt ∧ (nib a n).toInt * (nib b n).toInt ≤ 64 := by
      have ha := code_bounds (nib a n)
      have hb := code_bounds (nib b n)
      constructor <;> nlinarith [ha.1, ha.2, hb.1, hb.2]
    rw [idot]; push_cast; omega

/-- The reference's sum, read as an integer, is the sum of the products. -/
theorem rdot_toInt (a b : BitVec 32) : (rdot a b 8).toInt = idot a b 8 := by
  have h := idot_bounds a b 8
  rw [rdot_eq a b 8 (le_refl _), BitVec.toInt_ofInt, Int.bmod_eq_of_le] <;> norm_num at h ⊢ <;> omega

/-- The kernel's two halves add up to the reference's sum. -/
theorem dot_eq (a b : BitVec 32) : kdot a b 0 + kdot a b 1 = (((rdot a b 8).toInt : ℝ) : EReal) := by
  have k0 := fun (w : BitVec 32) (h : ℕ) (hh : h < 2) => khalf_eq w 0 h (by decide) hh
  have k1 := fun (w : BitVec 32) (h : ℕ) (hh : h < 2) => khalf_eq w 1 h (by decide) hh
  have k2 := fun (w : BitVec 32) (h : ℕ) (hh : h < 2) => khalf_eq w 2 h (by decide) hh
  have k3 := fun (w : BitVec 32) (h : ℕ) (hh : h < 2) => khalf_eq w 3 h (by decide) hh
  simp only [Nat.mul_zero, BitVec.ushiftRight_zero] at k0
  rw [rdot_toInt]
  unfold kdot
  rw [k0 a 0 (by decide), k0 b 0 (by decide), k1 a 0 (by decide), k1 b 0 (by decide), k2 a 0 (by decide), k2 b 0 (by decide),
    k3 a 0 (by decide), k3 b 0 (by decide), k0 a 1 (by decide), k0 b 1 (by decide), k1 a 1 (by decide), k1 b 1 (by decide),
    k2 a 1 (by decide), k2 b 1 (by decide), k3 a 1 (by decide), k3 b 1 (by decide)]
  simp only [idot]
  norm_cast
  norm_num
  ring

end Cert.Words

end
-- ==== Proof.Trip.lean ====
/- One trip of the kernel's pair loops, for every field at once.

The body keeps thirty-four counted loops, one per first field `f`, and in each trip handles the pair of `f` with a
later field `g`. The loops differ only in where they read and write, so one lemma about one region (`gbody`), at
offsets given as variables, serves them all. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.WholeRead
public import Idealize.ShloMosaic.Lib.WritesUnit
public import Idealize.ShloMosaic.Lib.ValueIdxCore

@[expose] public section

set_option maxRecDepth 8192

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The pairs in order -/

/-- The number of the first pair whose first field is `f`. -/
def base (f : ℕ) : ℕ := f * (77 - f) / 2

/-- The first field of pair `p`: how many fields' pairs end at or before `p`. -/
def pf (p : ℕ) : ℕ := ((List.range 38).filter fun f => base (f + 1) ≤ p).length

/-- The second field of pair `p`. -/
def pg (p : ℕ) : ℕ := p - base (pf p) + pf p + 1

/-- Every pair has two fields of the thirty-nine, the second the later. -/
theorem pf_lt_pg : ∀ p < 741, pf p < pg p ∧ pg p < 39 := by decide +kernel

/-- The `k`-th pair of first field `f` pairs `f` with `f + 1 + k`. -/
theorem pair_at : ∀ f < 38, ∀ k < 38 - f, pf (base f + k) = f ∧ pg (base f + k) = f + 1 + k := by decide +kernel

/-- The pairs of first field `f` number `38 - f`. -/
theorem base_succ : ∀ f < 38, base f + (38 - f) = base (f + 1) := by decide +kernel

/-! ## What is read -/

/-- The words of field `f` for field `g` in a block. -/
def wordRow (x1 : Vec F S39x40x8x128 .i32) (f g : ℕ) : Vec F S1x1x8x128 .i32 :=
  fun y => x1 (ix4 ⟨f % 39, Nat.mod_lt _ (by decide)⟩ ⟨g % 40, Nat.mod_lt _ (by decide)⟩ (y 2) (y 3))

/-- The row of field `f` in a block. -/
def fieldRow (W : Vec F S39x8x128 .f32) (f : ℕ) : Vec F S1x8x128 .f32 :=
  fun y => W (ix3 ⟨f % 39, Nat.mod_lt _ (by decide)⟩ (y 1) (y 2))

/-- A load of one field's words for another reads that row of the block. -/
theorem readAt_words (arg2 : Memref sig .tc .vmem S39x40x8x128 .i32) (harg2 : arg2.IsWhole) (x1 : Vec F S39x40x8x128 .i32)
    (o : Fin 4 → ℕ) (h : ∀ a, o a + S1x1x8x128.size a ≤ S39x40x8x128.size a) (f g : ℕ) (hf : f < 39) (hg : g < 40)
    (ho : o = ![f, g, 0, 0]) :
    View.readAt (Elt F) arg2.view (Rect.unit (s := S39x40x8x128) o S1x1x8x128.size h).toLoadRect (harg2.unread x1)
      = wordRow x1 f g := by
  subst ho
  funext y
  rw [harg2.readAt_unread]
  unfold wordRow
  refine congrArg x1 (funext fun a => Fin.ext ?_)
  have h0 : (y 0).val = 0 := by have := (y 0).isLt; change (y 0).val < 1 at this; omega
  have h1 : (y 1).val = 0 := by have := (y 1).isLt; change (y 1).val < 1 at this; omega
  fin_cases a
  · change f + 1 * (y 0).val = f % 39; rw [h0, Nat.mod_eq_of_lt hf]; rfl
  · change g + 1 * (y 1).val = g % 40; rw [h1, Nat.mod_eq_of_lt hg]; rfl
  · change 0 + 1 * (y 2).val = (y 2).val; omega
  · change 0 + 1 * (y 3).val = (y 3).val; omega

/-- A load of one field's row of a block of floats reads that row. -/
theorem readAt_field (arg6 : Memref sig .tc .vmem S39x8x128 .f32) (harg6 : arg6.IsWhole) (W : Vec F S39x8x128 .f32)
    (o : Fin 3 → ℕ) (h : ∀ a, o a + S1x8x128.size a ≤ S39x8x128.size a) (f : ℕ) (hf : f < 39) (ho : o = ![f, 0, 0]) :
    View.readAt (Elt F) arg6.view (Rect.unit (s := S39x8x128) o S1x8x128.size h).toLoadRect (harg6.unread W)
      = fieldRow W f := by
  subst ho
  funext y
  rw [harg6.readAt_unread]
  unfold fieldRow
  refine congrArg W (funext fun a => Fin.ext ?_)
  have h0 : (y 0).val = 0 := by have := (y 0).isLt; change (y 0).val < 1 at this; omega
  fin_cases a
  · change f + 1 * (y 0).val = f % 39; rw [h0, Nat.mod_eq_of_lt hf]; rfl
  · change 0 + 1 * (y 1).val = (y 1).val; omega
  · change 0 + 1 * (y 2).val = (y 2).val; omega

/-! ## What is written -/

/-- One pair on a block, from the two fields' words for each other and their two rows of weights. -/
def pairVal (a b : Vec F S1x1x8x128 .i32) (wf : FVec F S8x128 .f32) (wg : Vec F S1x8x128 .f32) : FVec F S8x128 .f32 :=
  mulf (mulf (addf
      (extf .f32 (k0_pay11 (k0_pay5 b) (k0_pay6 a) (k0_pay7 a) (k0_pay8 a) (k0_pay9 a) (Scalar.ofBits .bf16 0x4308#16)))
      (extf .f32 (k0_pay12 (k0_pay5 b) (k0_pay6 a) (k0_pay7 a) (k0_pay8 a) (k0_pay9 a) (Scalar.ofBits .bf16 0x4308#16)))) wf)
    (shapeCast S8x128 wg shapeCasts_S1x8x128_S8x128)

/-- A field's row as the loops keep it: without its leading axis. -/
def fieldVec (W : Vec F S39x8x128 .f32) (f : ℕ) : FVec F S8x128 .f32 :=
  shapeCast S8x128 (fieldRow W f) shapeCasts_S1x8x128_S8x128

/-- Pair `p` on a block. -/
def pairAt (x1 : Vec F S39x40x8x128 .i32) (W : Vec F S39x8x128 .f32) (p : ℕ) : FVec F S8x128 .f32 :=
  pairVal (wordRow x1 (pf p) (pg p)) (wordRow x1 (pg p) (pf p)) (fieldVec W (pf p)) (fieldRow W (pg p))

/-- The sum of the first `n` pairs of a block, in the kernel's order. -/
def accUpto (x1 : Vec F S39x40x8x128 .i32) (W : Vec F S39x8x128 .f32) : ℕ → FVec F S8x128 .f32
  | 0 => k0_pay413
  | n + 1 => addf (accUpto x1 W n) (pairAt x1 W n)

/-- The pair block with its first `n` pairs written over `D`. -/
def upto (x1 : Vec F S39x40x8x128 .i32) (W : Vec F S39x8x128 .f32) (D : Vec F S741x8x128 .f32) (n : ℕ) :
    Vec F S741x8x128 .f32 :=
  fun y => if (y 0).val < n then pairAt x1 W (y 0).val (ix2 (y 1) (y 2)) else D y

/-- Storing pair `p` over a list of writes that left the first `p` pairs leaves the first `p + 1`. -/
theorem read_store (v : View sig .tc .vmem S741x8x128 .f32) (f : v.ty.Contents (Elt F)) (L : List (View.Piece (Elt F) S741x8x128 .f32))
    (x1 : Vec F S39x40x8x128 .i32) (W : Vec F S39x8x128 .f32) (D : Vec F S741x8x128 .f32) (p : ℕ)
    (hL : v.read (Elt F) (v.writes (Elt F) f L) = upto x1 W D p)
    (o : Fin 3 → ℕ) (h : ∀ a, o a + S1x8x128.size a ≤ S741x8x128.size a) (ho : o = ![p, 0, 0])
    (w : FVec F S1x8x128 .f32) (hw : w = shapeCast S1x8x128 (pairAt x1 W p) shapeCasts_S8x128_S1x8x128) :
    v.read (Elt F) (v.writes (Elt F) f (⟨Rect.unit (s := S741x8x128) o S1x8x128.size h, w⟩ :: L)) = upto x1 W D (p + 1) := by
  subst hw
  funext y
  by_cases hy : (y 0).val = p
  · rw [View.read_writes_cons_unit_of_mem v f h _ L y (ix3 0 (y 1) (y 2)) ho (fun a => by
      fin_cases a
      · exact hy
      · exact (Nat.zero_add _).symm
      · exact (Nat.zero_add _).symm)]
    rw [show shapeCast S1x8x128 (pairAt x1 W p) shapeCasts_S8x128_S1x8x128 (ix3 0 (y 1) (y 2)) = pairAt x1 W p (ix2 (y 1) (y 2)) from
      (shapeCast_addUnit_apply ![8, 128] (pairAt x1 W p) shapeCasts_S8x128_S1x8x128 (ix3 0 (y 1) (y 2))).trans
        (congrArg _ (funext fun a => by fin_cases a <;> rfl))]
    unfold upto
    rw [if_pos (by omega), hy]
  · rw [View.read_writes_cons_unit_of_not_mem v f h _ L y ho 0 (by
      change (y 0).val < p ∨ p + 1 ≤ (y 0).val; omega), hL]
    unfold upto
    by_cases h' : (y 0).val < p
    · rw [if_pos h', if_pos (by omega)]
    · rw [if_neg h', if_neg (by omega)]

/-! ## One trip -/

/-- The region of every pair loop: the two fields' words for each other, the second field's row of weights, the pair
stored at its place and added to the sum carried. -/
def gbody (arg2 : Memref sig .tc .vmem S39x40x8x128 .i32) (arg5 : Memref sig .tc .vmem S741x8x128 .f32)
    (arg6 : Memref sig .tc .vmem S39x8x128 .f32)
    (o1 : Fin 4 → ℕ) (h1 : ∀ a, o1 a + S1x1x8x128.size a ≤ S39x40x8x128.size a)
    (o2 : Fin 4 → ℕ) (h2 : ∀ a, o2 a + S1x1x8x128.size a ≤ S39x40x8x128.size a)
    (o3 : Fin 3 → ℕ) (h3 : ∀ a, o3 a + S1x8x128.size a ≤ S39x8x128.size a)
    (o4 : Fin 3 → ℕ) (h4 : ∀ a, o4 a + S1x8x128.size a ≤ S741x8x128.size a)
    (wf : FVec F S8x128 .f32) (acc : FVec F S8x128 .f32) : Prog (TpuEff nD τ sig (Elt F) Λ₀ .tc) (FVec F S8x128 .f32) := do
  let a : Vec F S1x1x8x128 .i32 ← Prog.lift (.load arg2 (Rect.unit (s := S39x40x8x128) o1 S1x1x8x128.size h1).toLoadRect (View.loadsAt_vmem h_S1x1x8x128))
  let b : Vec F S1x1x8x128 .i32 ← Prog.lift (.load arg2 (Rect.unit (s := S39x40x8x128) o2 S1x1x8x128.size h2).toLoadRect (View.loadsAt_vmem h_S1x1x8x128))
  let wg : Vec F S1x8x128 .f32 ← Prog.lift (.load arg6 (Rect.unit (s := S39x8x128) o3 S1x8x128.size h3).toLoadRect (View.loadsAt_vmem h_S1x8x128))
  let _v : Vec F S1x8x128 .f32 ← Prog.lift (.load arg5 (Rect.unit (s := S741x8x128) o4 S1x8x128.size h4).toLoadRect (View.loadsAt_vmem h_S1x8x128))
  Prog.lift (.store arg5 (Rect.unit (s := S741x8x128) o4 S1x8x128.size h4) (shapeCast S1x8x128 (pairVal a b wf wg) shapeCasts_S8x128_S1x8x128) Finset.univ (View.stores_vmem_bits_univ h_S1x8x128 rfl) (.inl rfl))
  pure (addf acc (pairVal a b wf wg))

/-- What the loops hold: the words, the weights, and the pair block. -/
abbrev Held (c : Dev nD) (arg2 : Memref sig .tc .vmem S39x40x8x128 .i32) (harg2 : arg2.IsWhole)
    (arg5 : Memref sig .tc .vmem S741x8x128 .f32) (harg5 : arg5.IsWhole)
    (arg6 : Memref sig .tc .vmem S39x8x128 .f32) (harg6 : arg6.IsWhole)
    (x1 : Vec F S39x40x8x128 .i32) (W : Vec F S39x8x128 .f32) (D : Vec F S741x8x128 .f32) : sProp 𝕄 :=
  iprop((arg2.view.loc (c : Thread nD τ) ↦[arg2.view.set]{fullShare} harg2.unread x1)
    ∗ (arg6.view.loc (c : Thread nD τ) ↦[arg6.view.set]{fullShare} harg6.unread W)
    ∗ (arg5.view.loc (c : Thread nD τ) ↦[arg5.view.set]{fullShare} harg5.unread D))

variable (c : Dev nD) (𝒱 : Variants) (bd : Option 𝒱.V) (E : Set ℕ)
  (arg2 : Memref sig .tc .vmem S39x40x8x128 .i32) (harg2 : arg2.IsWhole)
  (arg5 : Memref sig .tc .vmem S741x8x128 .f32) (harg5 : arg5.IsWhole)
  (arg6 : Memref sig .tc .vmem S39x8x128 .f32) (harg6 : arg6.IsWhole)
  (x1 : Vec F S39x40x8x128 .i32) (W : Vec F S39x8x128 .f32) (D : Vec F S741x8x128 .f32)

/-- One trip on pair `p` of fields `f` and `g`, the first `p` pairs written and summed: afterwards the first `p + 1`
are. -/
theorem gtrip (f g p : ℕ) (hf : f < 39) (hg : g < 39) (hpf : pf p = f) (hpg : pg p = g)
    (o1 : Fin 4 → ℕ) (h1 : ∀ a, o1 a + S1x1x8x128.size a ≤ S39x40x8x128.size a) (ho1 : o1 = ![f, g, 0, 0])
    (o2 : Fin 4 → ℕ) (h2 : ∀ a, o2 a + S1x1x8x128.size a ≤ S39x40x8x128.size a) (ho2 : o2 = ![g, f, 0, 0])
    (o3 : Fin 3 → ℕ) (h3 : ∀ a, o3 a + S1x8x128.size a ≤ S39x8x128.size a) (ho3 : o3 = ![g, 0, 0])
    (o4 : Fin 3 → ℕ) (h4 : ∀ a, o4 a + S1x8x128.size a ≤ S741x8x128.size a) (ho4 : o4 = ![p, 0, 0]) :
    Held c arg2 harg2 arg5 harg5 arg6 harg6 x1 W (upto x1 W D p)
      ⊢ wp frame (wpE (defs₀ (F := F)) 𝒱 (c : Thread nD τ) bd) E
        (gbody arg2 arg5 arg6 o1 h1 o2 h2 o3 h3 o4 h4 (fieldVec W f) (accUpto x1 W p))
        (fun r => iprop(⌜r = accUpto x1 W (p + 1)⌝ ∗ Held c arg2 harg2 arg5 harg5 arg6 harg6 x1 W (upto x1 W D (p + 1)))) := by
  have e : pairVal (View.readAt (Elt F) arg2.view (Rect.unit (s := S39x40x8x128) o1 S1x1x8x128.size h1).toLoadRect (harg2.unread x1))
      (View.readAt (Elt F) arg2.view (Rect.unit (s := S39x40x8x128) o2 S1x1x8x128.size h2).toLoadRect (harg2.unread x1)) (fieldVec W f)
      (View.readAt (Elt F) arg6.view (Rect.unit (s := S39x8x128) o3 S1x8x128.size h3).toLoadRect (harg6.unread W)) = pairAt x1 W p := by
    rw [readAt_words arg2 harg2 x1 o1 h1 f g hf (by omega) ho1, readAt_words arg2 harg2 x1 o2 h2 g f hg (by omega) ho2,
      readAt_field arg6 harg6 W o3 h3 g hg ho3, pairAt, hpf, hpg]
  have hr := read_store arg5.view (harg5.unread (upto x1 W D p)) [] x1 W D p (harg5.read_unread _) o4 h4 ho4 _ rfl
  rw [← e] at hr
  unfold gbody
  iintro ⟨H2, H6, H5⟩
  sl_exec
  sl_step
  isplitr
  · ipureintro; rw [e]; rfl
  isplitl [H2]; · iexact H2
  isplitl [H6]; · iexact H6
  rw [harg5.eq_unread hr]
  iexact H5

end Cert.KernelIdeal.Own

end
-- ==== Proof.Spec.lean ====
/- The problem's mathematics on the extended reals: the weights, the pairs, the linear part and the scores. -/
module

public import proofs.«01_k».proof.Proof.Word
public import proofs.«01_k».proof.Proof.Trip

@[expose] public section

noncomputable section

namespace Cert.Spec

open Idealize.ShloMosaic
open Cert.Words
open Cert.KernelIdeal.Own (pf pg)

/-- The shape of the words: field, other field (or the scale's column), row, lane. -/
abbrev SW : Shape := ⟨4, ![39, 40, 192, 128]⟩
/-- The shape of the fields' values. -/
abbrev SX : Shape := ⟨3, ![39, 192, 128]⟩

/-- A field's number as an index of the first axis. -/
def fi (n : ℕ) : Fin 39 := ⟨n % 39, Nat.mod_lt _ (by decide)⟩
/-- A column's number as an index of the words' second axis. -/
def ci (n : ℕ) : Fin 40 := ⟨n % 40, Nat.mod_lt _ (by decide)⟩

variable (words : SW.Idx → BitVec 32) (x : SX.Idx → EReal) (bias : EReal)

/-- Field `f`'s weight in a sample: its value times its scale. -/
def weight (f : ℕ) (r : Fin 192) (l : Fin 128) : EReal :=
  x (ix3 (fi f) r l) * Ideal.ofBits .f32 (words (ix4 (fi f) (ci 39) r l))

/-- Pair `p`'s dot product in a sample: the integer sum of the products of the two words' codes. -/
def dot (p : ℕ) (r : Fin 192) (l : Fin 128) : EReal :=
  (((rdot (words (ix4 (fi (pf p)) (ci (pg p)) r l)) (words (ix4 (fi (pg p)) (ci (pf p)) r l)) 8).toInt : ℝ) : EReal)

/-- Pair `p` in a sample: the dot product times the two fields' weights. -/
def pair (p : ℕ) (r : Fin 192) (l : Fin 128) : EReal :=
  dot words p r l * weight words x (pf p) r l * weight words x (pg p) r l

/-- Field `f`'s linear term in a sample. -/
def lin (f : ℕ) (r : Fin 192) (l : Fin 128) : EReal :=
  Ideal.ofBits .f32 (words (ix4 (fi f) (ci f) r l)) * x (ix3 (fi f) r l)

/-- A sample's score: the bias, the linear terms and the pairs. -/
def logit (r : Fin 192) (l : Fin 128) : EReal :=
  bias + ∑ f : Fin 39, lin words x f r l + ∑ p : Fin 741, pair words x p r l

/-- The sum of a function's first `n` values, taken one after another, is its sum over the first `n` numbers. -/
theorem iter_eq_sum (g : ℕ → EReal) (acc : ℕ → EReal) (h0 : acc 0 = 0) (hs : ∀ n, acc (n + 1) = acc n + g n) (n : ℕ) :
    acc n = ∑ k : Fin n, g k := by
  induction n with
  | zero => simpa using h0
  | succ n ih => rw [hs, ih, Fin.sum_univ_castSucc]; rfl

end Cert.Spec

end
-- ==== Proof.Loops.lean ====
/- The thirty-four pair loops of the kernel in turn: each takes the first pairs written and summed up to its first
field to the same up to the next field. -/
module

public import proofs.«01_k».proof.Proof.Trip

@[expose] public section

set_option maxRecDepth 8192

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable {c : Dev nD} {𝒱 : Variants} {bd : Option 𝒱.V} {E : Set ℕ}
  {arg2 : Memref sig .tc .vmem S39x40x8x128 .i32} {harg2 : arg2.IsWhole}
  {arg5 : Memref sig .tc .vmem S741x8x128 .f32} {harg5 : arg5.IsWhole}
  {arg6 : Memref sig .tc .vmem S39x8x128 .f32} {harg6 : arg6.IsWhole}
  {x1 : Vec F S39x40x8x128 .i32} {W : Vec F S39x8x128 .f32} {D : Vec F S741x8x128 .f32}
  {β : Type}

/-- A pair loop of first field `f` at the head of a program: its trips are `gbody` at offsets that walk the later
fields and the pairs of `f` in order, and past it the pairs of `f` are written and summed too. -/
theorem seg_loop (f : ℕ) (hf : f < 38) (l : Scf.Loop 32) (hok : l.OK) (ht : l.trips = 38 - f)
    (o1 : Fin l.trips → Fin 4 → ℕ) (h1 : ∀ k a, o1 k a + S1x1x8x128.size a ≤ S39x40x8x128.size a)
    (o2 : Fin l.trips → Fin 4 → ℕ) (h2 : ∀ k a, o2 k a + S1x1x8x128.size a ≤ S39x40x8x128.size a)
    (o3 : Fin l.trips → Fin 3 → ℕ) (h3 : ∀ k a, o3 k a + S1x8x128.size a ≤ S39x8x128.size a)
    (o4 : Fin l.trips → Fin 3 → ℕ) (h4 : ∀ k a, o4 k a + S1x8x128.size a ≤ S741x8x128.size a)
    (ho : ∀ k : Fin l.trips, o1 k = ![f, f + 1 + k.val, 0, 0] ∧ o2 k = ![f + 1 + k.val, f, 0, 0]
      ∧ o3 k = ![f + 1 + k.val, 0, 0] ∧ o4 k = ![base f + k.val, 0, 0])
    (body : Fin l.trips → FVec F S8x128 .f32 → Prog (TpuEff nD τ sig (Elt F) Λ₀ .tc) (FVec F S8x128 .f32))
    (hb : ∀ k acc, body k acc
      = gbody arg2 arg5 arg6 (o1 k) (h1 k) (o2 k) (h2 k) (o3 k) (h3 k) (o4 k) (h4 k) (fieldVec W f) acc)
    (kk : FVec F S8x128 .f32 → Prog (TpuEff nD τ sig (Elt F) Λ₀ .tc) β) {Q : β → sProp 𝕄} :
    iprop(Held c arg2 harg2 arg5 harg5 arg6 harg6 x1 W (upto x1 W D (base f))
      ∗ (Held c arg2 harg2 arg5 harg5 arg6 harg6 x1 W (upto x1 W D (base (f + 1)))
          -∗ wp frame (wpE (defs₀ (F := F)) 𝒱 (c : Thread nD τ) bd) E (kk (accUpto x1 W (base (f + 1)))) Q))
      ⊢ wp frame (wpE (defs₀ (F := F)) 𝒱 (c : Thread nD τ) bd) E
          (Scf.Loop.for l hok (accUpto x1 W (base f)) body >>= kk) Q := by
  have hbody : ∀ (k : Fin (Scf.trips l.lb l.ub l.st)) (acc : FVec F S8x128 .f32),
      (iprop(⌜acc = accUpto x1 W (base f + k.val)⌝
        ∗ Held c arg2 harg2 arg5 harg5 arg6 harg6 x1 W (upto x1 W D (base f + k.val))) : sProp 𝕄)
      ⊢ wp frame (wpE (defs₀ (F := F)) 𝒱 (c : Thread nD τ) bd) E (body k acc)
        (fun r => iprop(⌜r = accUpto x1 W (base f + (k.val + 1))⌝
          ∗ Held c arg2 harg2 arg5 harg5 arg6 harg6 x1 W (upto x1 W D (base f + (k.val + 1))))) := by
    intro k acc
    have hk : k.val < 38 - f := lt_of_lt_of_eq k.isLt ht
    obtain ⟨e1, e2, e3, e4⟩ := ho k
    obtain ⟨p1, p2⟩ := pair_at f hf k.val hk
    iintro ⟨%hacc, H⟩
    subst hacc
    rw [hb]
    iapply (gtrip c 𝒱 bd E arg2 harg2 arg5 harg5 arg6 harg6 x1 W D f (f + 1 + k.val) (base f + k.val) (by omega) (by omega)
      p1 p2 (o1 k) (h1 k) e1 (o2 k) (h2 k) e2 (o3 k) (h3 k) e3 (o4 k) (h4 k) e4)
    iexact H
  have hl : base f + Scf.trips l.lb l.ub l.st = base (f + 1) := by
    rw [show Scf.trips l.lb l.ub l.st = 38 - f from ht]; exact base_succ f hf
  have hw := Scf.wp_for_bind frame (wpE (defs₀ (F := F)) 𝒱 (c : Thread nD τ) bd) E l.lb l.ub l.st hok
    (accUpto x1 W (base f)) body
    (fun k acc => iprop(⌜acc = accUpto x1 W (base f + k)⌝
      ∗ Held c arg2 harg2 arg5 harg5 arg6 harg6 x1 W (upto x1 W D (base f + k)))) hbody (kk := kk) (Q := Q)
  rw [hl, Nat.add_zero] at hw
  iintro ⟨H, HK⟩
  ihave HW := hw $$ [H]
  · isplitr
    · ipureintro; rfl
    iexact H
  iapply HW
  iintro %acc ⟨%hacc, H⟩
  subst hacc
  iapply HK
  iexact H

/-- The load of a field's weights between the loops. -/
theorem seg_field (f : ℕ) (hf : f < 39) (h : ∀ a, (![f, 0, 0] : Fin 3 → ℕ) a + S1x8x128.size a ≤ S39x8x128.size a)
    (kk : Vec F S1x8x128 .f32 → Prog (TpuEff nD τ sig (Elt F) Λ₀ .tc) β) {Q : β → sProp 𝕄} :
    iprop(Held c arg2 harg2 arg5 harg5 arg6 harg6 x1 W D
      ∗ (Held c arg2 harg2 arg5 harg5 arg6 harg6 x1 W D
          -∗ wp frame (wpE (defs₀ (F := F)) 𝒱 (c : Thread nD τ) bd) E (kk (fieldRow W f)) Q))
      ⊢ wp frame (wpE (defs₀ (F := F)) 𝒱 (c : Thread nD τ) bd) E
          (Prog.lift (.load arg6 (Rect.unit (s := S39x8x128) ![f, 0, 0] S1x8x128.size h).toLoadRect
            (View.loadsAt_vmem h_S1x8x128)) >>= kk) Q := by
  rw [← readAt_field arg6 harg6 W ![f, 0, 0] h f hf rfl]
  iintro ⟨⟨H2, H6, H5⟩, HK⟩
  sl_exec
  iapply HK
  isplitl [H2]; · iexact H2
  isplitl [H6]; · iexact H6
  iexact H5

end

variable {c : Dev nD} {𝒱 : Variants} {bd : Option 𝒱.V} {E : Set ℕ}
  (i : grid0.Coords) (arg1 : Memref sig .tc .smem S1 .f32) (harg1 : arg1.IsWhole) (arg2 : Memref sig .tc .vmem S39x40x8x128 .i32) (harg2 : arg2.IsWhole) (arg3 : Memref sig .tc .vmem S39x8x128 .f32) (harg3 : arg3.IsWhole) (arg4 : Memref sig .tc .vmem S8x128 .f32) (harg4 : arg4.IsWhole) (arg5 : Memref sig .tc .vmem S741x8x128 .f32) (harg5 : arg5.IsWhole) (arg6 : Memref sig .tc .vmem S39x8x128 .f32) (harg6 : arg6.IsWhole)
  {x1 : Vec F S39x40x8x128 .i32} {W : Vec F S39x8x128 .f32} {D : Vec F S741x8x128 .f32}
  {β : Type}

/-- The pairs of first fields 0 to 4. -/
theorem part88 (v : FVec F S8x128 .f32) (w : Vec F S1x8x128 .f32) (hv : v = accUpto x1 W (base 0)) (hw : w = fieldRow W 0)
    {Q : (Σ' (_ : FVec F S8x128 .f32) (_ : FVec F S8x128 .f32) (_ : BitVec 32), BitVec 32) → sProp 𝕄} :
    iprop(Held c arg2 harg2 arg5 harg5 arg6 harg6 x1 W (upto x1 W D (base 0))
      ∗ (Held c arg2 harg2 arg5 harg5 arg6 harg6 x1 W (upto x1 W D (base 5))
          -∗ Q ⟨accUpto x1 W (base 5), k0_pay429 (fieldRow W 5), 6#32, 1#32⟩))
      ⊢ wp frame (wpE (defs₀ (F := F)) 𝒱 (c : Thread nD τ) bd) E
          (k0_part88 i arg1 harg1 arg2 harg2 arg3 harg3 arg4 harg4 arg5 harg5 arg6 harg6 v w) Q := by
  subst hv hw
  rw [k0_part88_eq_skeleton]
  unfold k0_part88_skel
  iintro ⟨H, HK⟩
  iapply (seg_loop 0 (by decide) k0_t1_loop k0_t1_ok (by decide +kernel) k0_off1 k0_off1_inb k0_off2 k0_off2_inb k0_off3 k0_off3_inb k0_off4 k0_off4_inb (by decide +kernel) _ fun _ _ => rfl)
  isplitl [H]; · iexact H
  iintro H
  iapply (seg_field 1 (by decide))
  isplitl [H]; · iexact H
  iintro H
  iapply (seg_loop 1 (by decide) k0_t2_loop k0_t2_ok (by decide +kernel) k0_off5 k0_off5_inb k0_off6 k0_off6_inb k0_off7 k0_off7_inb k0_off8 k0_off8_inb (by decide +kernel) _ fun _ _ => rfl)
  isplitl [H]; · iexact H
  iintro H
  iapply (seg_field 2 (by decide))
  isplitl [H]; · iexact H
  iintro H
  iapply (seg_loop 2 (by decide) k0_t3_loop k0_t3_ok (by decide +kernel) k0_off9 k0_off9_inb k0_off10 k0_off10_inb k0_off11 k0_off11_inb k0_off12 k0_off12_inb (by decide +kernel) _ fun _ _ => rfl)
  isplitl [H]; · iexact H
  iintro H
  iapply (seg_field 3 (by decide))
  isplitl [H]; · iexact H
  iintro H
  iapply (seg_loop 3 (by decide) k0_t4_loop k0_t4_ok (by decide +kernel) k0_off13 k0_off13_inb k0_off14 k0_off14_inb k0_off15 k0_off15_inb k0_off16 k0_off16_inb (by decide +kernel) _ fun _ _ => rfl)
  isplitl [H]; · iexact H
  iintro H
  iapply (seg_field 4 (by decide))
  isplitl [H]; · iexact H
  iintro H
  iapply (seg_loop 4 (by decide) k0_t5_loop k0_t5_ok (by decide +kernel) k0_off17 k0_off17_inb k0_off18 k0_off18_inb k0_off19 k0_off19_inb k0_off20 k0_off20_inb (by decide +kernel) _ fun _ _ => rfl)
  isplitl [H]; · iexact H
  iintro H
  iapply (seg_field 5 (by decide))
  isplitl [H]; · iexact H
  iintro H
  sl_step
  iapply HK
  iexact H

/-- The pairs of first fields 5 to 10. -/
theorem part89
    {Q : FVec F S8x128 .f32 → sProp 𝕄} :
    iprop(Held c arg2 harg2 arg5 harg5 arg6 harg6 x1 W (upto x1 W D (base 5))
      ∗ (Held c arg2 harg2 arg5 harg5 arg6 harg6 x1 W (upto x1 W D (base 11))
          -∗ Q (accUpto x1 W (base 11))))
      ⊢ wp frame (wpE (defs₀ (F := F)) 𝒱 (c : Thread nD τ) bd) E
          (k0_part89 i arg1 harg1 arg2 harg2 arg3 harg3 arg4 harg4 arg5 harg5 arg6 harg6 (accUpto x1 W (base 5)) (k0_pay429 (fieldRow W 5)) 6#32 1#32) Q := by
  rw [k0_part89_eq_skeleton]
  unfold k0_part89_skel
  iintro ⟨H, HK⟩
  iapply (seg_loop 5 (by decide) k0_t6_loop k0_t6_ok (by decide +kernel) k0_off21 k0_off21_inb k0_off22 k0_off22_inb k0_off23 k0_off23_inb k0_off24 k0_off24_inb (by decide +kernel) _ fun _ _ => rfl)
  isplitl [H]; · iexact H
  iintro H
  iapply (seg_field 6 (by decide))
  isplitl [H]; · iexact H
  iintro H
  iapply (seg_loop 6 (by decide) k0_t7_loop k0_t7_ok (by decide +kernel) k0_off25 k0_off25_inb k0_off26 k0_off26_inb k0_off27 k0_off27_inb k0_off28 k0_off28_inb (by decide +kernel) _ fun _ _ => rfl)
  isplitl [H]; · iexact H
  iintro H
  iapply (seg_field 7 (by decide))
  isplitl [H]; · iexact H
  iintro H
  iapply (seg_loop 7 (by decide) k0_t8_loop k0_t8_ok (by decide +kernel) k0_off29 k0_off29_inb k0_off30 k0_off30_inb k0_off31 k0_off31_inb k0_off32 k0_off32_inb (by decide +kernel) _ fun _ _ => rfl)
  isplitl [H]; · iexact H
  iintro H
  iapply (seg_field 8 (by decide))
  isplitl [H]; · iexact H
  iintro H
  iapply (seg_loop 8 (by decide) k0_t9_loop k0_t9_ok (by decide +kernel) k0_off33 k0_off33_inb k0_off34 k0_off34_inb k0_off35 k0_off35_inb k0_off36 k0_off36_inb (by decide +kernel) _ fun _ _ => rfl)
  isplitl [H]; · iexact H
  iintro H
  iapply (seg_field 9 (by decide))
  isplitl [H]; · iexact H
  iintro H
  iapply (seg_loop 9 (by decide) k0_t10_loop k0_t10_ok (by decide +kernel) k0_off37 k0_off37_inb k0_off38 k0_off38_inb k0_off39 k0_off39_inb k0_off40 k0_off40_inb (by decide +kernel) _ fun _ _ => rfl)
  isplitl [H]; · iexact H
  iintro H
  iapply (seg_field 10 (by decide))
  isplitl [H]; · iexact H
  iintro H
  iapply (seg_loop 10 (by decide) k0_t11_loop k0_t11_ok (by decide +kernel) k0_off41 k0_off41_inb k0_off42 k0_off42_inb k0_off43 k0_off43_inb k0_off44 k0_off44_inb (by decide +kernel) _ fun _ _ => rfl)
  isplitl [H]; · iexact H
  iintro H
  dsimp only
  sl_step
  iapply HK
  iexact H

/-- The pairs of first fields 11 to 15. -/
theorem part90
    {Q : (Σ' (_ : FVec F S8x128 .f32) (_ : FVec F S8x128 .f32), BitVec 32) → sProp 𝕄} :
    iprop(Held c arg2 harg2 arg5 harg5 arg6 harg6 x1 W (upto x1 W D (base 11))
      ∗ (Held c arg2 harg2 arg5 harg5 arg6 harg6 x1 W (upto x1 W D (base 16))
          -∗ Q ⟨accUpto x1 W (base 16), k0_pay463 (fieldRow W 16), 17#32⟩))
      ⊢ wp frame (wpE (defs₀ (F := F)) 𝒱 (c : Thread nD τ) bd) E
          (k0_part90 i arg1 harg1 arg2 harg2 arg3 harg3 arg4 harg4 arg5 harg5 arg6 harg6 (accUpto x1 W (base 11))) Q := by
  rw [k0_part90_eq_skeleton]
  unfold k0_part90_skel
  iintro ⟨H, HK⟩
  iapply (seg_field 11 (by decide))
  isplitl [H]; · iexact H
  iintro H
  iapply (seg_loop 11 (by decide) k0_t12_loop k0_t12_ok (by decide +kernel) k0_off45 k0_off45_inb k0_off46 k0_off46_inb k0_off47 k0_off47_inb k0_off48 k0_off48_inb (by decide +kernel) _ fun _ _ => rfl)
  isplitl [H]; · iexact H
  iintro H
  iapply (seg_field 12 (by decide))
  isplitl [H]; · iexact H
  iintro H
  iapply (seg_loop 12 (by decide) k0_t13_loop k0_t13_ok (by decide +kernel) k0_off49 k0_off49_inb k0_off50 k0_off50_inb k0_off51 k0_off51_inb k0_off52 k0_off52_inb (by decide +kernel) _ fun _ _ => rfl)
  isplitl [H]; · iexact H
  iintro H
  iapply (seg_field 13 (by decide))
  isplitl [H]; · iexact H
  iintro H
  iapply (seg_loop 13 (by decide) k0_t14_loop k0_t14_ok (by decide +kernel) k0_off53 k0_off53_inb k0_off54 k0_off54_inb k0_off55 k0_off55_inb k0_off56 k0_off56_inb (by decide +kernel) _ fun _ _ => rfl)
  isplitl [H]; · iexact H
  iintro H
  iapply (seg_field 14 (by decide))
  isplitl [H]; · iexact H
  iintro H
  iapply (seg_loop 14 (by decide) k0_t15_loop k0_t15_ok (by decide +kernel) k0_off57 k0_off57_inb k0_off58 k0_off58_inb k0_off59 k0_off59_inb k0_off60 k0_off60_inb (by decide +kernel) _ fun _ _ => rfl)
  isplitl [H]; · iexact H
  iintro H
  iapply (seg_field 15 (by decide))
  isplitl [H]; · iexact H
  iintro H
  iapply (seg_loop 15 (by decide) k0_t16_loop k0_t16_ok (by decide +kernel) k0_off61 k0_off61_inb k0_off62 k0_off62_inb k0_off63 k0_off63_inb k0_off64 k0_off64_inb (by decide +kernel) _ fun _ _ => rfl)
  isplitl [H]; · iexact H
  iintro H
  iapply (seg_field 16 (by decide))
  isplitl [H]; · iexact H
  iintro H
  sl_step
  iapply HK
  iexact H

/-- The pairs of first fields 16 to 21. -/
theorem part91
    {Q : FVec F S8x128 .f32 → sProp 𝕄} :
    iprop(Held c arg2 harg2 arg5 harg5 arg6 harg6 x1 W (upto x1 W D (base 16))
      ∗ (Held c arg2 harg2 arg5 harg5 arg6 harg6 x1 W (upto x1 W D (base 22))
          -∗ Q (accUpto x1 W (base 22))))
      ⊢ wp frame (wpE (defs₀ (F := F)) 𝒱 (c : Thread nD τ) bd) E
          (k0_part91 i arg1 harg1 arg2 harg2 arg3 harg3 arg4 harg4 arg5 harg5 arg6 harg6 (accUpto x1 W (base 16)) (k0_pay463 (fieldRow W 16)) 17#32) Q := by
  rw [k0_part91_eq_skeleton]
  unfold k0_part91_skel
  iintro ⟨H, HK⟩
  iapply (seg_loop 16 (by decide) k0_t17_loop k0_t17_ok (by decide +kernel) k0_off65 k0_off65_inb k0_off66 k0_off66_inb k0_off67 k0_off67_inb k0_off68 k0_off68_inb (by decide +kernel) _ fun _ _ => rfl)
  isplitl [H]; · iexact H
  iintro H
  iapply (seg_field 17 (by decide))
  isplitl [H]; · iexact H
  iintro H
  iapply (seg_loop 17 (by decide) k0_t18_loop k0_t18_ok (by decide +kernel) k0_off69 k0_off69_inb k0_off70 k0_off70_inb k0_off71 k0_off71_inb k0_off72 k0_off72_inb (by decide +kernel) _ fun _ _ => rfl)
  isplitl [H]; · iexact H
  iintro H
  iapply (seg_field 18 (by decide))
  isplitl [H]; · iexact H
  iintro H
  iapply (seg_loop 18 (by decide) k0_t19_loop k0_t19_ok (by decide +kernel) k0_off73 k0_off73_inb k0_off74 k0_off74_inb k0_off75 k0_off75_inb k0_off76 k0_off76_inb (by decide +kernel) _ fun _ _ => rfl)
  isplitl [H]; · iexact H
  iintro H
  iapply (seg_field 19 (by decide))
  isplitl [H]; · iexact H
  iintro H
  iapply (seg_loop 19 (by decide) k0_t20_loop k0_t20_ok (by decide +kernel) k0_off77 k0_off77_inb k0_off78 k0_off78_inb k0_off79 k0_off79_inb k0_off80 k0_off80_inb (by decide +kernel) _ fun _ _ => rfl)
  isplitl [H]; · iexact H
  iintro H
  iapply (seg_field 20 (by decide))
  isplitl [H]; · iexact H
  iintro H
  iapply (seg_loop 20 (by decide) k0_t21_loop k0_t21_ok (by decide +kernel) k0_off81 k0_off81_inb k0_off82 k0_off82_inb k0_off83 k0_off83_inb k0_off84 k0_off84_inb (by decide +kernel) _ fun _ _ => rfl)
  isplitl [H]; · iexact H
  iintro H
  iapply (seg_field 21 (by decide))
  isplitl [H]; · iexact H
  iintro H
  iapply (seg_loop 21 (by decide) k0_t22_loop k0_t22_ok (by decide +kernel) k0_off85 k0_off85_inb k0_off86 k0_off86_inb k0_off87 k0_off87_inb k0_off88 k0_off88_inb (by decide +kernel) _ fun _ _ => rfl)
  isplitl [H]; · iexact H
  iintro H
  dsimp only
  sl_step
  iapply HK
  iexact H

/-- The pairs of first fields 22 to 26. -/
theorem part92
    {Q : (Σ' (_ : FVec F S8x128 .f32) (_ : FVec F S8x128 .f32) (_ : BitVec 32), BitVec 32) → sProp 𝕄} :
    iprop(Held c arg2 harg2 arg5 harg5 arg6 harg6 x1 W (upto x1 W D (base 22))
      ∗ (Held c arg2 harg2 arg5 harg5 arg6 harg6 x1 W (upto x1 W D (base 27))
          -∗ Q ⟨accUpto x1 W (base 27), k0_pay497 (fieldRow W 27), 28#32, 11#32⟩))
      ⊢ wp frame (wpE (defs₀ (F := F)) 𝒱 (c : Thread nD τ) bd) E
          (k0_part92 i arg1 harg1 arg2 harg2 arg3 harg3 arg4 harg4 arg5 harg5 arg6 harg6 (accUpto x1 W (base 22))) Q := by
  rw [k0_part92_eq_skeleton]
  unfold k0_part92_skel
  iintro ⟨H, HK⟩
  iapply (seg_field 22 (by decide))
  isplitl [H]; · iexact H
  iintro H
  iapply (seg_loop 22 (by decide) k0_t23_loop k0_t23_ok (by decide +kernel) k0_off89 k0_off89_inb k0_off90 k0_off90_inb k0_off91 k0_off91_inb k0_off92 k0_off92_inb (by decide +kernel) _ fun _ _ => rfl)
  isplitl [H]; · iexact H
  iintro H
  iapply (seg_field 23 (by decide))
  isplitl [H]; · iexact H
  iintro H
  iapply (seg_loop 23 (by decide) k0_t24_loop k0_t24_ok (by decide +kernel) k0_off93 k0_off93_inb k0_off94 k0_off94_inb k0_off95 k0_off95_inb k0_off96 k0_off96_inb (by decide +kernel) _ fun _ _ => rfl)
  isplitl [H]; · iexact H
  iintro H
  iapply (seg_field 24 (by decide))
  isplitl [H]; · iexact H
  iintro H
  iapply (seg_loop 24 (by decide) k0_t25_loop k0_t25_ok (by decide +kernel) k0_off97 k0_off97_inb k0_off98 k0_off98_inb k0_off99 k0_off99_inb k0_off100 k0_off100_inb (by decide +kernel) _ fun _ _ => rfl)
  isplitl [H]; · iexact H
  iintro H
  iapply (seg_field 25 (by decide))
  isplitl [H]; · iexact H
  iintro H
  iapply (seg_loop 25 (by decide) k0_t26_loop k0_t26_ok (by decide +kernel) k0_off101 k0_off101_inb k0_off102 k0_off102_inb k0_off103 k0_off103_inb k0_off104 k0_off104_inb (by decide +kernel) _ fun _ _ => rfl)
  isplitl [H]; · iexact H
  iintro H
  iapply (seg_field 26 (by decide))
  isplitl [H]; · iexact H
  iintro H
  iapply (seg_loop 26 (by decide) k0_t27_loop k0_t27_ok (by decide +kernel) k0_off105 k0_off105_inb k0_off106 k0_off106_inb k0_off107 k0_off107_inb k0_off108 k0_off108_inb (by decide +kernel) _ fun _ _ => rfl)
  isplitl [H]; · iexact H
  iintro H
  iapply (seg_field 27 (by decide))
  isplitl [H]; · iexact H
  iintro H
  sl_step
  iapply HK
  iexact H

/-- The pairs of first fields 27 to 32. -/
theorem part93
    {Q : FVec F S8x128 .f32 → sProp 𝕄} :
    iprop(Held c arg2 harg2 arg5 harg5 arg6 harg6 x1 W (upto x1 W D (base 27))
      ∗ (Held c arg2 harg2 arg5 harg5 arg6 harg6 x1 W (upto x1 W D (base 33))
          -∗ Q (accUpto x1 W (base 33))))
      ⊢ wp frame (wpE (defs₀ (F := F)) 𝒱 (c : Thread nD τ) bd) E
          (k0_part93 i arg1 harg1 arg2 harg2 arg3 harg3 arg4 harg4 arg5 harg5 arg6 harg6 (accUpto x1 W (base 27)) (k0_pay497 (fieldRow W 27)) 28#32 11#32) Q := by
  rw [k0_part93_eq_skeleton]
  unfold k0_part93_skel
  iintro ⟨H, HK⟩
  iapply (seg_loop 27 (by decide) k0_t28_loop k0_t28_ok (by decide +kernel) k0_off109 k0_off109_inb k0_off110 k0_off110_inb k0_off111 k0_off111_inb k0_off112 k0_off112_inb (by decide +kernel) _ fun _ _ => rfl)
  isplitl [H]; · iexact H
  iintro H
  iapply (seg_field 28 (by decide))
  isplitl [H]; · iexact H
  iintro H
  iapply (seg_loop 28 (by decide) k0_t29_loop k0_t29_ok (by decide +kernel) k0_off113 k0_off113_inb k0_off114 k0_off114_inb k0_off115 k0_off115_inb k0_off116 k0_off116_inb (by decide +kernel) _ fun _ _ => rfl)
  isplitl [H]; · iexact H
  iintro H
  iapply (seg_field 29 (by decide))
  isplitl [H]; · iexact H
  iintro H
  iapply (seg_loop 29 (by decide) k0_t30_loop k0_t30_ok (by decide +kernel) k0_off117 k0_off117_inb k0_off118 k0_off118_inb k0_off119 k0_off119_inb k0_off120 k0_off120_inb (by decide +kernel) _ fun _ _ => rfl)
  isplitl [H]; · iexact H
  iintro H
  iapply (seg_field 30 (by decide))
  isplitl [H]; · iexact H
  iintro H
  iapply (seg_loop 30 (by decide) k0_t31_loop k0_t31_ok (by decide +kernel) k0_off121 k0_off121_inb k0_off122 k0_off122_inb k0_off123 k0_off123_inb k0_off124 k0_off124_inb (by decide +kernel) _ fun _ _ => rfl)
  isplitl [H]; · iexact H
  iintro H
  iapply (seg_field 31 (by decide))
  isplitl [H]; · iexact H
  iintro H
  iapply (seg_loop 31 (by decide) k0_t32_loop k0_t32_ok (by decide +kernel) k0_off125 k0_off125_inb k0_off126 k0_off126_inb k0_off127 k0_off127_inb k0_off128 k0_off128_inb (by decide +kernel) _ fun _ _ => rfl)
  isplitl [H]; · iexact H
  iintro H
  iapply (seg_field 32 (by decide))
  isplitl [H]; · iexact H
  iintro H
  iapply (seg_loop 32 (by decide) k0_t33_loop k0_t33_ok (by decide +kernel) k0_off129 k0_off129_inb k0_off130 k0_off130_inb k0_off131 k0_off131_inb k0_off132 k0_off132_inb (by decide +kernel) _ fun _ _ => rfl)
  isplitl [H]; · iexact H
  iintro H
  dsimp only
  sl_step
  iapply HK
  iexact H

end Cert.KernelIdeal.Own

end
-- ==== Proof.Body.lean ====
/- What one step of the kernel leaves in its two output blocks: the scores and the pairs, named. -/
module

public import proofs.«01_k».proof.Proof.Loops
public import Idealize.ShloMosaic.Lib.VecWindow

@[expose] public section

set_option maxRecDepth 8192

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The weights and the linear part -/

/-- Field `f`'s weights on a block: its values times the scales its words hold in column 39. -/
def weightAt (x1 : Vec F S39x40x8x128 .i32) (x2 : Vec F S39x8x128 .f32) (f : ℕ) : FVec F S8x128 .f32 :=
  mulf (shapeCast S8x128 (fieldRow x2 f) shapeCasts_S1x8x128_S8x128)
    (bitcastToFloat .f32 (shapeCast S8x128 (wordRow x1 f 39) shapeCasts_S1x1x8x128_S8x128))

/-- The weights' block with its first `n` fields written over `D`. -/
def weightsUpto (x1 : Vec F S39x40x8x128 .i32) (x2 : Vec F S39x8x128 .f32) (D : Vec F S39x8x128 .f32) (n : ℕ) :
    Vec F S39x8x128 .f32 :=
  fun y => if (y 0).val < n then weightAt x1 x2 (y 0).val (ix2 (y 1) (y 2)) else D y

/-- All the fields' weights on a block. -/
def weights (x1 : Vec F S39x40x8x128 .i32) (x2 : Vec F S39x8x128 .f32) : Vec F S39x8x128 .f32 :=
  fun y => weightAt x1 x2 (y 0).val (ix2 (y 1) (y 2))

theorem weightsUpto_all (x1 : Vec F S39x40x8x128 .i32) (x2 : Vec F S39x8x128 .f32) (D : Vec F S39x8x128 .f32) :
    weightsUpto x1 x2 D 39 = weights x1 x2 :=
  funext fun y => if_pos (y 0).isLt

/-- Field `f`'s term of the linear part on a block. -/
def linAt (x1 : Vec F S39x40x8x128 .i32) (x2 : Vec F S39x8x128 .f32) (f : ℕ) : FVec F S8x128 .f32 :=
  mulf (bitcastToFloat .f32 (shapeCast S8x128 (wordRow x1 f f) shapeCasts_S1x1x8x128_S8x128))
    (shapeCast S8x128 (fieldRow x2 f) shapeCasts_S1x8x128_S8x128)

/-- The linear part of the first `n` fields, in the kernel's order. -/
def linUpto (x1 : Vec F S39x40x8x128 .i32) (x2 : Vec F S39x8x128 .f32) : ℕ → FVec F S8x128 .f32
  | 0 => k0_pay413
  | n + 1 => addf (linUpto x1 x2 n) (linAt x1 x2 n)

/-- Storing field `f`'s weights over a list of writes that left the first `f` fields leaves the first `f + 1`. -/
theorem read_store_weights (v : View sig .tc .vmem S39x8x128 .f32) (f : v.ty.Contents (Elt F)) (L : List (View.Piece (Elt F) S39x8x128 .f32))
    (x1 : Vec F S39x40x8x128 .i32) (x2 : Vec F S39x8x128 .f32) (D : Vec F S39x8x128 .f32) (p : ℕ)
    (hL : v.read (Elt F) (v.writes (Elt F) f L) = weightsUpto x1 x2 D p)
    (o : Fin 3 → ℕ) (h : ∀ a, o a + S1x8x128.size a ≤ S39x8x128.size a) (ho : o = ![p, 0, 0])
    (w : FVec F S1x8x128 .f32) (hw : w = shapeCast S1x8x128 (weightAt x1 x2 p) shapeCasts_S8x128_S1x8x128) :
    v.read (Elt F) (v.writes (Elt F) f (⟨Rect.unit (s := S39x8x128) o S1x8x128.size h, w⟩ :: L)) = weightsUpto x1 x2 D (p + 1) := by
  subst hw
  funext y
  by_cases hy : (y 0).val = p
  · rw [View.read_writes_cons_unit_of_mem v f h _ L y (ix3 0 (y 1) (y 2)) ho (fun a => by
      fin_cases a
      · exact hy
      · exact (Nat.zero_add _).symm
      · exact (Nat.zero_add _).symm)]
    rw [show shapeCast S1x8x128 (weightAt x1 x2 p) shapeCasts_S8x128_S1x8x128 (ix3 0 (y 1) (y 2)) = weightAt x1 x2 p (ix2 (y 1) (y 2)) from
      (shapeCast_addUnit_apply ![8, 128] (weightAt x1 x2 p) shapeCasts_S8x128_S1x8x128 (ix3 0 (y 1) (y 2))).trans
        (congrArg _ (funext fun a => by fin_cases a <;> rfl))]
    unfold weightsUpto
    rw [if_pos (by omega), hy]
  · rw [View.read_writes_cons_unit_of_not_mem v f h _ L y ho 0 (by
      change (y 0).val < p ∨ p + 1 ≤ (y 0).val; omega), hL]
    unfold weightsUpto
    by_cases h' : (y 0).val < p
    · rw [if_pos h', if_pos (by omega)]
    · rw [if_neg h', if_neg (by omega)]

/-- The same with the store's payload as the body has it: a product of a load of the values and one of the words. -/
theorem read_store_load (v : View sig .tc .vmem S39x8x128 .f32) (f : v.ty.Contents (Elt F)) (L : List (View.Piece (Elt F) S39x8x128 .f32))
    (x1 : Vec F S39x40x8x128 .i32) (x2 : Vec F S39x8x128 .f32) (D : Vec F S39x8x128 .f32) (p : ℕ)
    (arg2 : Memref sig .tc .vmem S39x40x8x128 .i32) (harg2 : arg2.IsWhole)
    (arg3 : Memref sig .tc .vmem S39x8x128 .f32) (harg3 : arg3.IsWhole) (hp : p < 39)
    (h : ∀ a, (![p, 0, 0] : Fin 3 → ℕ) a + S1x8x128.size a ≤ S39x8x128.size a)
    (h' : ∀ a, (![p, 39, 0, 0] : Fin 4 → ℕ) a + S1x1x8x128.size a ≤ S39x40x8x128.size a)
    (w : FVec F S1x8x128 .f32)
    (hw : w = shapeCast S1x8x128 (mulf (shapeCast S8x128
        (View.readAt (Elt F) arg3.view (Rect.unit (s := S39x8x128) ![p, 0, 0] S1x8x128.size h).toLoadRect (harg3.unread x2) : Vec F S1x8x128 .f32)
        shapeCasts_S1x8x128_S8x128) (bitcastToFloat .f32 (shapeCast S8x128
        (View.readAt (Elt F) arg2.view (Rect.unit (s := S39x40x8x128) ![p, 39, 0, 0] S1x1x8x128.size h').toLoadRect (harg2.unread x1) : Vec F S1x1x8x128 .i32)
        shapeCasts_S1x1x8x128_S8x128))) shapeCasts_S8x128_S1x8x128)
    (hL : v.read (Elt F) (v.writes (Elt F) f L) = weightsUpto x1 x2 D p) :
    v.read (Elt F) (v.writes (Elt F) f (⟨Rect.unit (s := S39x8x128) ![p, 0, 0] S1x8x128.size h, w⟩ :: L)) = weightsUpto x1 x2 D (p + 1) := by
  refine read_store_weights v f L x1 x2 D p hL _ h rfl w ?_
  rw [hw, readAt_field arg3 harg3 x2 _ h p hp rfl, readAt_words arg2 harg2 x1 _ h' p 39 hp (by decide) rfl]
  rfl

/-- A load of field `f`'s words for field `g`, at its offsets written out. -/
theorem load_words (arg2 : Memref sig .tc .vmem S39x40x8x128 .i32) (harg2 : arg2.IsWhole) (x1 : Vec F S39x40x8x128 .i32)
    (f g : ℕ) (h : ∀ a, (![f, g, 0, 0] : Fin 4 → ℕ) a + S1x1x8x128.size a ≤ S39x40x8x128.size a) (hf : f < 39) (hg : g < 40) :
    View.readAt (Elt F) arg2.view (Rect.unit (s := S39x40x8x128) ![f, g, 0, 0] S1x1x8x128.size h).toLoadRect (harg2.unread x1)
      = wordRow x1 f g := readAt_words arg2 harg2 x1 _ h f g hf hg rfl

/-- A load of field `f`'s row, at its offsets written out. -/
theorem load_field (arg6 : Memref sig .tc .vmem S39x8x128 .f32) (harg6 : arg6.IsWhole) (W : Vec F S39x8x128 .f32)
    (f : ℕ) (h : ∀ a, (![f, 0, 0] : Fin 3 → ℕ) a + S1x8x128.size a ≤ S39x8x128.size a) (hf : f < 39) :
    View.readAt (Elt F) arg6.view (Rect.unit (s := S39x8x128) ![f, 0, 0] S1x8x128.size h).toLoadRect (harg6.unread W)
      = fieldRow W f := readAt_field arg6 harg6 W _ h f hf rfl

/-- The pair block with every pair written: nothing is left of what was there. -/
def pairs (x1 : Vec F S39x40x8x128 .i32) (W : Vec F S39x8x128 .f32) : Vec F S741x8x128 .f32 :=
  fun y => pairAt x1 W (y 0).val (ix2 (y 1) (y 2))

theorem upto_all (x1 : Vec F S39x40x8x128 .i32) (W : Vec F S39x8x128 .f32) (D : Vec F S741x8x128 .f32) :
    upto x1 W D 741 = pairs x1 W :=
  funext fun y => if_pos (y 0).isLt

/-- The scores of a block: the bias, the linear part and the sum of the pairs. -/
def logits (x0 : Vec F S1 .f32) (x1 : Vec F S39x40x8x128 .i32) (x2 : Vec F S39x8x128 .f32) : Vec F S8x128 .f32 :=
  addf (addf (broadcast S8x128 (x0 (ix1 0))) (linUpto x1 x2 39)) (accUpto x1 (weights x1 x2) 741)

/-- One pair as the last stretch of the body has it, from four loads. -/
abbrev pairLoad (arg2 : Memref sig .tc .vmem S39x40x8x128 .i32) (harg2 : arg2.IsWhole)
    (arg6 : Memref sig .tc .vmem S39x8x128 .f32) (harg6 : arg6.IsWhole)
    (x1 : Vec F S39x40x8x128 .i32) (W : Vec F S39x8x128 .f32) (f g : ℕ)
    (h1 : ∀ a, (![f, g, 0, 0] : Fin 4 → ℕ) a + S1x1x8x128.size a ≤ S39x40x8x128.size a)
    (h2 : ∀ a, (![g, f, 0, 0] : Fin 4 → ℕ) a + S1x1x8x128.size a ≤ S39x40x8x128.size a)
    (h3 : ∀ a, (![f, 0, 0] : Fin 3 → ℕ) a + S1x8x128.size a ≤ S39x8x128.size a)
    (h4 : ∀ a, (![g, 0, 0] : Fin 3 → ℕ) a + S1x8x128.size a ≤ S39x8x128.size a) : FVec F S8x128 .f32 :=
  pairVal (View.readAt (Elt F) arg2.view (Rect.unit (s := S39x40x8x128) ![f, g, 0, 0] S1x1x8x128.size h1).toLoadRect (harg2.unread x1))
    (View.readAt (Elt F) arg2.view (Rect.unit (s := S39x40x8x128) ![g, f, 0, 0] S1x1x8x128.size h2).toLoadRect (harg2.unread x1))
    (shapeCast S8x128 (View.readAt (Elt F) arg6.view (Rect.unit (s := S39x8x128) ![f, 0, 0] S1x8x128.size h3).toLoadRect (harg6.unread W) : Vec F S1x8x128 .f32)
      shapeCasts_S1x8x128_S8x128)
    (View.readAt (Elt F) arg6.view (Rect.unit (s := S39x8x128) ![g, 0, 0] S1x8x128.size h4).toLoadRect (harg6.unread W))

theorem pairLoad_eq (arg2 : Memref sig .tc .vmem S39x40x8x128 .i32) (harg2 : arg2.IsWhole)
    (arg6 : Memref sig .tc .vmem S39x8x128 .f32) (harg6 : arg6.IsWhole)
    (x1 : Vec F S39x40x8x128 .i32) (W : Vec F S39x8x128 .f32) (p f g : ℕ) (hf : pf p = f) (hg : pg p = g) (hp : p < 741) (h1 h2 h3 h4) :
    pairLoad arg2 harg2 arg6 harg6 x1 W f g h1 h2 h3 h4 = pairAt x1 W p := by
  obtain ⟨hlt, hlt'⟩ := pf_lt_pg p hp
  rw [pairLoad, load_words _ _ _ f g h1 (by omega) (by omega), load_words _ _ _ g f h2 (by omega) (by omega),
    load_field _ _ _ f h3 (by omega), load_field _ _ _ g h4 (by omega), pairAt, hf, hg, fieldVec]

/-- The store of such a pair: `read_store` at a payload of loads. -/
theorem read_store_pair (v : View sig .tc .vmem S741x8x128 .f32) (F0 : v.ty.Contents (Elt F)) (L : List (View.Piece (Elt F) S741x8x128 .f32))
    (D : Vec F S741x8x128 .f32) (arg2 : Memref sig .tc .vmem S39x40x8x128 .i32) (harg2 : arg2.IsWhole)
    (arg6 : Memref sig .tc .vmem S39x8x128 .f32) (harg6 : arg6.IsWhole)
    (x1 : Vec F S39x40x8x128 .i32) (W : Vec F S39x8x128 .f32) (p f g : ℕ) (hf : pf p = f) (hg : pg p = g) (hp : p < 741) (h1 h2 h3 h4)
    (h : ∀ a, (![p, 0, 0] : Fin 3 → ℕ) a + S1x8x128.size a ≤ S741x8x128.size a)
    (w : FVec F S1x8x128 .f32)
    (hw : w = shapeCast S1x8x128 (pairLoad arg2 harg2 arg6 harg6 x1 W f g h1 h2 h3 h4) shapeCasts_S8x128_S1x8x128)
    (hL : v.read (Elt F) (v.writes (Elt F) F0 L) = upto x1 W D p) :
    v.read (Elt F) (v.writes (Elt F) F0 (⟨Rect.unit (s := S741x8x128) ![p, 0, 0] S1x8x128.size h, w⟩ :: L)) = upto x1 W D (p + 1) :=
  read_store v F0 L x1 W D p hL _ h rfl w (by rw [hw, pairLoad_eq arg2 harg2 arg6 harg6 x1 W p f g hf hg hp])

/-- The sum carried past such a pair. -/
theorem acc_step (arg2 : Memref sig .tc .vmem S39x40x8x128 .i32) (harg2 : arg2.IsWhole)
    (arg6 : Memref sig .tc .vmem S39x8x128 .f32) (harg6 : arg6.IsWhole)
    (x1 : Vec F S39x40x8x128 .i32) (W : Vec F S39x8x128 .f32) (p f g : ℕ) (hf : pf p = f) (hg : pg p = g) (hp : p < 741) (h1 h2 h3 h4)
    (v : FVec F S8x128 .f32) (hv : v = addf (accUpto x1 W p) (pairLoad arg2 harg2 arg6 harg6 x1 W f g h1 h2 h3 h4)) :
    v = accUpto x1 W (p + 1) := by
  rw [hv, pairLoad_eq arg2 harg2 arg6 harg6 x1 W p f g hf hg hp]; rfl

set_option maxHeartbeats 1000000 in
/-- One step of the kernel, whatever its buffers held: from its blocks of words and values to the scores and pairs. -/
theorem body (c : Dev nD) (i : grid0.Coords) (arg1 : Memref sig .tc .smem S1 .f32) (harg1 : arg1.IsWhole) (arg2 : Memref sig .tc .vmem S39x40x8x128 .i32) (harg2 : arg2.IsWhole) (arg3 : Memref sig .tc .vmem S39x8x128 .f32) (harg3 : arg3.IsWhole) (arg4 : Memref sig .tc .vmem S8x128 .f32) (harg4 : arg4.IsWhole) (arg5 : Memref sig .tc .vmem S741x8x128 .f32) (harg5 : arg5.IsWhole) (arg6 : Memref sig .tc .vmem S39x8x128 .f32) (harg6 : arg6.IsWhole)
    (x0 : Vec F S1 .f32) (x1 : Vec F S39x40x8x128 .i32) (x2 : Vec F S39x8x128 .f32) (d4 : Vec F S741x8x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare d4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare (logits x0 x1 x2) ∗ owns (c : Thread nD τ) arg5 fullShare (pairs x1 (weights x1 x2)) ∗ (∃ d, owns (c : Thread nD τ) arg6 fullShare d)) -∗ K ⟨⟩))
          ⊢ wp frame (wpE (defs₀ (F := F)) Variants.none c none) E (cc0_ffm_pairs i arg1 harg1 arg2 harg2 arg3 harg3 arg4 harg4 arg5 harg5 arg6 harg6) K := by
    simp only [cc0_ffm_pairs_eq_skeleton]; unfold cc0_ffm_pairs_skel
    simp only [k0_part118_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    set_option sl_exec.stopBefore "k0_part88" in sl_exec
    set_option sl_exec.stopBefore "k0_part88" in sl_exec
    have hW : ∀ f, arg6.view.read (Elt F) (arg6.view.writes (Elt F) f (body.sl.HS0_39 c arg2 harg2 arg3 harg3 x1 x2)) = weights x1 x2 := by
      intro f
      rw [← weightsUpto_all x1 x2 (arg6.view.read (Elt F) f)]
      unfold body.sl.HS0_39
      repeat (refine read_store_load _ _ _ x1 x2 _ _ arg2 harg2 arg3 harg3 (by decide) _ (by decide) _ rfl ?_)
      exact funext fun y => (if_neg (Nat.not_lt_zero _)).symm
    have hw := fun f h hf => load_words arg2 harg2 x1 f f h hf (by omega)
    have hv := load_field arg3 harg3 x2
    have e2 : body.sl.r_2 c arg2 harg2 arg3 harg3 x1 x2 = linUpto x1 x2 4 := by
      unfold body.sl.r_2 body.sl.r body.sl.r_1
      rw [hw 0 _ (by decide), hv 0 _ (by decide), hw 1 _ (by decide), hv 1 _ (by decide), hw 2 _ (by decide), hv 2 _ (by decide), hw 3 _ (by decide), hv 3 _ (by decide)]
      rfl
    have e3 : body.sl.r_3 c arg2 harg2 arg3 harg3 x1 x2 = linUpto x1 x2 6 := by
      unfold body.sl.r_3
      rw [e2, hw 4 _ (by decide), hv 4 _ (by decide), hw 5 _ (by decide), hv 5 _ (by decide)]
      rfl
    have e4 : body.sl.r_4 c arg2 harg2 arg3 harg3 x1 x2 = linUpto x1 x2 8 := by
      unfold body.sl.r_4
      rw [e3, hw 6 _ (by decide), hv 6 _ (by decide), hw 7 _ (by decide), hv 7 _ (by decide)]
      rfl
    have e6 : body.sl.r_6 c arg2 harg2 arg3 harg3 x1 x2 = linUpto x1 x2 10 := by
      unfold body.sl.r_6 body.sl.r_5
      rw [e4, hw 8 _ (by decide), hv 8 _ (by decide), hw 9 _ (by decide), hv 9 _ (by decide)]
      rfl
    have e8 : body.sl.r_8 c arg2 harg2 arg3 harg3 x1 x2 = linUpto x1 x2 12 := by
      unfold body.sl.r_8 body.sl.r_7
      rw [e6, hw 10 _ (by decide), hv 10 _ (by decide), hw 11 _ (by decide), hv 11 _ (by decide)]
      rfl
    have e10 : body.sl.r_10 c arg2 harg2 arg3 harg3 x1 x2 = linUpto x1 x2 14 := by
      unfold body.sl.r_10 body.sl.r_9
      rw [e8, hw 12 _ (by decide), hv 12 _ (by decide), hw 13 _ (by decide), hv 13 _ (by decide)]
      rfl
    have e13 : body.sl.r_13 c arg2 harg2 arg3 harg3 x1 x2 = linUpto x1 x2 16 := by
      unfold body.sl.r_13 body.sl.r_11
      rw [e10, hw 14 _ (by decide), hv 14 _ (by decide), hw 15 _ (by decide), hv 15 _ (by decide)]
      rfl
    have e16 : body.sl.r_16 c arg2 harg2 arg3 harg3 x1 x2 = linUpto x1 x2 18 := by
      unfold body.sl.r_16 body.sl.r_14
      rw [e13, hw 16 _ (by decide), hv 16 _ (by decide), hw 17 _ (by decide), hv 17 _ (by decide)]
      rfl
    have e19 : body.sl.r_19 c arg2 harg2 arg3 harg3 x1 x2 = linUpto x1 x2 20 := by
      unfold body.sl.r_19 body.sl.r_17
      rw [e16, hw 18 _ (by decide), hv 18 _ (by decide), hw 19 _ (by decide), hv 19 _ (by decide)]
      rfl
    have e22 : body.sl.r_22 c arg2 harg2 arg3 harg3 x1 x2 = linUpto x1 x2 22 := by
      unfold body.sl.r_22 body.sl.r_20
      rw [e19, hw 20 _ (by decide), hv 20 _ (by decide), hw 21 _ (by decide), hv 21 _ (by decide)]
      rfl
    have e25 : body.sl.r_25 c arg2 harg2 arg3 harg3 x1 x2 = linUpto x1 x2 24 := by
      unfold body.sl.r_25 body.sl.r_23
      rw [e22, hw 22 _ (by decide), hv 22 _ (by decide), hw 23 _ (by decide), hv 23 _ (by decide)]
      rfl
    have e27 : body.sl.r_27 c arg2 harg2 arg3 harg3 x1 x2 = linUpto x1 x2 26 := by
      unfold body.sl.r_27 body.sl.r_26
      rw [e25, hw 24 _ (by decide), hv 24 _ (by decide), hw 25 _ (by decide), hv 25 _ (by decide)]
      rfl
    have e29 : body.sl.r_29 c arg2 harg2 arg3 harg3 x1 x2 = linUpto x1 x2 28 := by
      unfold body.sl.r_29 body.sl.r_28
      rw [e27, hw 26 _ (by decide), hv 26 _ (by decide), hw 27 _ (by decide), hv 27 _ (by decide)]
      rfl
    have e32 : body.sl.r_32 c arg2 harg2 arg3 harg3 x1 x2 = linUpto x1 x2 30 := by
      unfold body.sl.r_32 body.sl.r_30 body.sl.r_31
      rw [e29, hw 28 _ (by decide), hv 28 _ (by decide), hw 29 _ (by decide), hv 29 _ (by decide)]
      rfl
    have e35 : body.sl.r_35 c arg2 harg2 arg3 harg3 x1 x2 = linUpto x1 x2 33 := by
      unfold body.sl.r_35 body.sl.r_33 body.sl.r_34
      rw [e32, hw 30 _ (by decide), hv 30 _ (by decide), hw 31 _ (by decide), hv 31 _ (by decide), hw 32 _ (by decide), hv 32 _ (by decide)]
      rfl
    have e36 : body.sl.r_36 c arg2 harg2 arg3 harg3 x1 x2 = linUpto x1 x2 35 := by
      unfold body.sl.r_36
      rw [e35, hw 33 _ (by decide), hv 33 _ (by decide), hw 34 _ (by decide), hv 34 _ (by decide)]
      rfl
    have e37 : body.sl.r_37 c arg2 harg2 arg3 harg3 x1 x2 = linUpto x1 x2 37 := by
      unfold body.sl.r_37
      rw [e36, hw 35 _ (by decide), hv 35 _ (by decide), hw 36 _ (by decide), hv 36 _ (by decide)]
      rfl
    have hlin : body.sl.r_39 c arg2 harg2 arg3 harg3 x1 x2 = linUpto x1 x2 39 := by
      unfold body.sl.r_39 body.sl.r_38
      rw [e37, hw 37 _ (by decide), hv 37 _ (by decide), hw 38 _ (by decide), hv 38 _ (by decide)]
      rfl
    have h548 : body.sl.v548 c arg2 harg2 arg3 harg3 arg6 x1 x2 = fieldRow (weights x1 x2) 0 := by
      unfold body.sl.v548
      change View.readAt (Elt F) arg6.view _ (arg6.view.writes (Elt F) arg6.view.junk _) = _
      rw [harg6.eq_unread (hW _)]
      exact load_field arg6 harg6 _ 0 _ (by decide)
    rw [harg6.eq_unread (hW _), hlin, h548]
    dsimp only
    rw [show d4 = upto x1 (weights x1 x2) d4 (base 0) from funext fun y => (if_neg (Nat.not_lt_zero _)).symm]
    rw [wp_bind]
    iapply (part88 i arg1 harg1 arg2 harg2 arg3 harg3 arg4 harg4 arg5 harg5 arg6 harg6 _ _ rfl rfl)
    isplitl [H1 HS0 H4]
    · isplitl [H1]; · iexact H1
      isplitl [HS0]; · iexact HS0
      iexact H4
    iintro H
    dsimp only
    rw [wp_bind]
    iapply (part89 i arg1 harg1 arg2 harg2 arg3 harg3 arg4 harg4 arg5 harg5 arg6 harg6)
    isplitl [H]; · iexact H
    iintro H
    try dsimp only
    rw [wp_bind]
    iapply (part90 i arg1 harg1 arg2 harg2 arg3 harg3 arg4 harg4 arg5 harg5 arg6 harg6)
    isplitl [H]; · iexact H
    iintro H
    try dsimp only
    rw [wp_bind]
    iapply (part91 i arg1 harg1 arg2 harg2 arg3 harg3 arg4 harg4 arg5 harg5 arg6 harg6)
    isplitl [H]; · iexact H
    iintro H
    try dsimp only
    rw [wp_bind]
    iapply (part92 i arg1 harg1 arg2 harg2 arg3 harg3 arg4 harg4 arg5 harg5 arg6 harg6)
    isplitl [H]; · iexact H
    iintro H
    try dsimp only
    rw [wp_bind]
    iapply (part93 i arg1 harg1 arg2 harg2 arg3 harg3 arg4 harg4 arg5 harg5 arg6 harg6)
    isplitl [H]; · iexact H
    iintro H
    try dsimp only
    rw [wp_bind, k0_part94_eq_skeleton]
    unfold k0_part94_skel
    iapply (seg_field 33 (by decide))
    isplitl [H]; · iexact H
    iintro H
    iapply (seg_loop 33 (by decide) k0_t34_loop k0_t34_ok (by decide +kernel) k0_off133 k0_off133_inb k0_off134 k0_off134_inb k0_off135 k0_off135_inb k0_off136 k0_off136_inb (by decide +kernel) _ fun _ _ => rfl)
    isplitl [H]; · iexact H
    iintro ⟨H1, HS0, H4⟩
    simp only [k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    sl_exec
    have e53 : body.sl.r_53 arg2 harg2 arg6 harg6 x1 x2 = accUpto x1 (weights x1 x2) 732 := by
      unfold body.sl.r_53
      exact acc_step arg2 harg2 arg6 harg6 x1 (weights x1 x2) 731 34 35 (by decide +kernel) (by decide +kernel) (by decide) inb_S39x40x8x128_S1x1x8x128_34_35_0_0 inb_S39x40x8x128_S1x1x8x128_35_34_0_0 inb_S39x8x128_S1x8x128_34_0_0 inb_S39x8x128_S1x8x128_35_0_0 _ rfl
    have e64 : body.sl.r_64 arg2 harg2 arg6 harg6 x1 x2 = accUpto x1 (weights x1 x2) 733 := by
      unfold body.sl.r_64
      rw [e53]
      exact acc_step arg2 harg2 arg6 harg6 x1 (weights x1 x2) 732 34 36 (by decide +kernel) (by decide +kernel) (by decide) inb_S39x40x8x128_S1x1x8x128_34_36_0_0 inb_S39x40x8x128_S1x1x8x128_36_34_0_0 inb_S39x8x128_S1x8x128_34_0_0 inb_S39x8x128_S1x8x128_36_0_0 _ rfl
    have e72 : body.sl.r_72 arg2 harg2 arg6 harg6 x1 x2 = accUpto x1 (weights x1 x2) 734 := by
      unfold body.sl.r_72
      rw [e64]
      exact acc_step arg2 harg2 arg6 harg6 x1 (weights x1 x2) 733 34 37 (by decide +kernel) (by decide +kernel) (by decide) inb_S39x40x8x128_S1x1x8x128_34_37_0_0 inb_S39x40x8x128_S1x1x8x128_37_34_0_0 inb_S39x8x128_S1x8x128_34_0_0 inb_S39x8x128_S1x8x128_37_0_0 _ rfl
    have e83 : body.sl.r_83 arg2 harg2 arg6 harg6 x1 x2 = accUpto x1 (weights x1 x2) 735 := by
      unfold body.sl.r_83
      rw [e72]
      exact acc_step arg2 harg2 arg6 harg6 x1 (weights x1 x2) 734 34 38 (by decide +kernel) (by decide +kernel) (by decide) inb_S39x40x8x128_S1x1x8x128_34_38_0_0 inb_S39x40x8x128_S1x1x8x128_38_34_0_0 inb_S39x8x128_S1x8x128_34_0_0 inb_S39x8x128_S1x8x128_38_0_0 _ rfl
    have e92 : body.sl.r_92 arg2 harg2 arg6 harg6 x1 x2 = accUpto x1 (weights x1 x2) 736 := by
      unfold body.sl.r_92
      rw [e83]
      exact acc_step arg2 harg2 arg6 harg6 x1 (weights x1 x2) 735 35 36 (by decide +kernel) (by decide +kernel) (by decide) inb_S39x40x8x128_S1x1x8x128_35_36_0_0 inb_S39x40x8x128_S1x1x8x128_36_35_0_0 inb_S39x8x128_S1x8x128_35_0_0 inb_S39x8x128_S1x8x128_36_0_0 _ rfl
    have e103 : body.sl.r_103 arg2 harg2 arg6 harg6 x1 x2 = accUpto x1 (weights x1 x2) 737 := by
      unfold body.sl.r_103
      rw [e92]
      exact acc_step arg2 harg2 arg6 harg6 x1 (weights x1 x2) 736 35 37 (by decide +kernel) (by decide +kernel) (by decide) inb_S39x40x8x128_S1x1x8x128_35_37_0_0 inb_S39x40x8x128_S1x1x8x128_37_35_0_0 inb_S39x8x128_S1x8x128_35_0_0 inb_S39x8x128_S1x8x128_37_0_0 _ rfl
    have e113 : body.sl.r_113 arg2 harg2 arg6 harg6 x1 x2 = accUpto x1 (weights x1 x2) 738 := by
      unfold body.sl.r_113
      rw [e103]
      exact acc_step arg2 harg2 arg6 harg6 x1 (weights x1 x2) 737 35 38 (by decide +kernel) (by decide +kernel) (by decide) inb_S39x40x8x128_S1x1x8x128_35_38_0_0 inb_S39x40x8x128_S1x1x8x128_38_35_0_0 inb_S39x8x128_S1x8x128_35_0_0 inb_S39x8x128_S1x8x128_38_0_0 _ rfl
    have e126 : body.sl.r_126 arg2 harg2 arg6 harg6 x1 x2 = accUpto x1 (weights x1 x2) 739 := by
      unfold body.sl.r_126
      rw [e113]
      exact acc_step arg2 harg2 arg6 harg6 x1 (weights x1 x2) 738 36 37 (by decide +kernel) (by decide +kernel) (by decide) inb_S39x40x8x128_S1x1x8x128_36_37_0_0 inb_S39x40x8x128_S1x1x8x128_37_36_0_0 inb_S39x8x128_S1x8x128_36_0_0 inb_S39x8x128_S1x8x128_37_0_0 _ rfl
    have e137 : body.sl.r_137 arg2 harg2 arg6 harg6 x1 x2 = accUpto x1 (weights x1 x2) 740 := by
      unfold body.sl.r_137
      rw [e126]
      exact acc_step arg2 harg2 arg6 harg6 x1 (weights x1 x2) 739 36 38 (by decide +kernel) (by decide +kernel) (by decide) inb_S39x40x8x128_S1x1x8x128_36_38_0_0 inb_S39x40x8x128_S1x1x8x128_38_36_0_0 inb_S39x8x128_S1x8x128_36_0_0 inb_S39x8x128_S1x8x128_38_0_0 _ rfl
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap
      · iexact H3
      · ipureintro
        refine (View.read_writes_full arg4.view f3 _ _ _).trans ?_
        rw [e137]
        unfold body.sl.r_149 body.sl.r_152 logits
        have e : View.readAt (Elt F) arg1.view (Rect.unit (s := S1) ![0] ![1] inb_S1_S1_0).toLoadRect (harg1.unread x0) (Shape.Idx.first (by decide)) = x0 (ix1 0) := by
          rw [harg1.readAt_unread]
          exact congrArg x0 (funext fun a => Fin.ext (by fin_cases a; rfl))
        rw [← acc_step arg2 harg2 arg6 harg6 x1 (weights x1 x2) 740 37 38 (by decide +kernel) (by decide +kernel) (by decide) inb_S39x40x8x128_S1x1x8x128_37_38_0_0 inb_S39x40x8x128_S1x1x8x128_38_37_0_0 inb_S39x8x128_S1x8x128_37_0_0 inb_S39x8x128_S1x8x128_38_0_0 _ rfl, ← e]
        rfl
    isplitl [H4]
    · iexists _; isplitr; swap
      · iexact H4
      · ipureintro
        rw [← upto_all x1 (weights x1 x2) d4]
        refine read_store_pair _ _ _ d4 arg2 harg2 arg6 harg6 x1 (weights x1 x2) 740 37 38 (by decide +kernel) (by decide +kernel) (by decide) inb_S39x40x8x128_S1x1x8x128_37_38_0_0 inb_S39x40x8x128_S1x1x8x128_38_37_0_0 inb_S39x8x128_S1x8x128_37_0_0 inb_S39x8x128_S1x8x128_38_0_0 _ _ rfl ?_
        refine read_store_pair _ _ _ d4 arg2 harg2 arg6 harg6 x1 (weights x1 x2) 739 36 38 (by decide +kernel) (by decide +kernel) (by decide) inb_S39x40x8x128_S1x1x8x128_36_38_0_0 inb_S39x40x8x128_S1x1x8x128_38_36_0_0 inb_S39x8x128_S1x8x128_36_0_0 inb_S39x8x128_S1x8x128_38_0_0 _ _ rfl ?_
        refine read_store_pair _ _ _ d4 arg2 harg2 arg6 harg6 x1 (weights x1 x2) 738 36 37 (by decide +kernel) (by decide +kernel) (by decide) inb_S39x40x8x128_S1x1x8x128_36_37_0_0 inb_S39x40x8x128_S1x1x8x128_37_36_0_0 inb_S39x8x128_S1x8x128_36_0_0 inb_S39x8x128_S1x8x128_37_0_0 _ _ rfl ?_
        refine read_store_pair _ _ _ d4 arg2 harg2 arg6 harg6 x1 (weights x1 x2) 737 35 38 (by decide +kernel) (by decide +kernel) (by decide) inb_S39x40x8x128_S1x1x8x128_35_38_0_0 inb_S39x40x8x128_S1x1x8x128_38_35_0_0 inb_S39x8x128_S1x8x128_35_0_0 inb_S39x8x128_S1x8x128_38_0_0 _ _ rfl ?_
        refine read_store_pair _ _ _ d4 arg2 harg2 arg6 harg6 x1 (weights x1 x2) 736 35 37 (by decide +kernel) (by decide +kernel) (by decide) inb_S39x40x8x128_S1x1x8x128_35_37_0_0 inb_S39x40x8x128_S1x1x8x128_37_35_0_0 inb_S39x8x128_S1x8x128_35_0_0 inb_S39x8x128_S1x8x128_37_0_0 _ _ rfl ?_
        refine read_store_pair _ _ _ d4 arg2 harg2 arg6 harg6 x1 (weights x1 x2) 735 35 36 (by decide +kernel) (by decide +kernel) (by decide) inb_S39x40x8x128_S1x1x8x128_35_36_0_0 inb_S39x40x8x128_S1x1x8x128_36_35_0_0 inb_S39x8x128_S1x8x128_35_0_0 inb_S39x8x128_S1x8x128_36_0_0 _ _ rfl ?_
        refine read_store_pair _ _ _ d4 arg2 harg2 arg6 harg6 x1 (weights x1 x2) 734 34 38 (by decide +kernel) (by decide +kernel) (by decide) inb_S39x40x8x128_S1x1x8x128_34_38_0_0 inb_S39x40x8x128_S1x1x8x128_38_34_0_0 inb_S39x8x128_S1x8x128_34_0_0 inb_S39x8x128_S1x8x128_38_0_0 _ _ rfl ?_
        refine read_store_pair _ _ _ d4 arg2 harg2 arg6 harg6 x1 (weights x1 x2) 733 34 37 (by decide +kernel) (by decide +kernel) (by decide) inb_S39x40x8x128_S1x1x8x128_34_37_0_0 inb_S39x40x8x128_S1x1x8x128_37_34_0_0 inb_S39x8x128_S1x8x128_34_0_0 inb_S39x8x128_S1x8x128_37_0_0 _ _ rfl ?_
        refine read_store_pair _ _ _ d4 arg2 harg2 arg6 harg6 x1 (weights x1 x2) 732 34 36 (by decide +kernel) (by decide +kernel) (by decide) inb_S39x40x8x128_S1x1x8x128_34_36_0_0 inb_S39x40x8x128_S1x1x8x128_36_34_0_0 inb_S39x8x128_S1x8x128_34_0_0 inb_S39x8x128_S1x8x128_36_0_0 _ _ rfl ?_
        refine read_store_pair _ _ _ d4 arg2 harg2 arg6 harg6 x1 (weights x1 x2) 731 34 35 (by decide +kernel) (by decide +kernel) (by decide) inb_S39x40x8x128_S1x1x8x128_34_35_0_0 inb_S39x40x8x128_S1x1x8x128_35_34_0_0 inb_S39x8x128_S1x8x128_34_0_0 inb_S39x8x128_S1x8x128_35_0_0 _ _ rfl ?_
        exact harg5.read_unread _
    iexists _, _; isplitr; swap
    · iexact HS0
    · ipureintro; exact harg6.read_unread _

end Cert.KernelIdeal.Own

end
-- ==== Proof.Run.lean ====
/- The run of the whole kernel: each of its 24 steps leaves the scores and the pairs of its eight rows. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a step -/

/-- The staging buffers of the five windows at step `t`. -/
abbrev ms0 (t : Fin cfg0.N) : Memref sig .tc .smem S1 .f32 := win0_0.stage (cfg0.slots t 0)
abbrev ms1 (t : Fin cfg0.N) : Memref sig .tc .vmem S39x40x8x128 .i32 := win0_1.stage (cfg0.slots t 1)
abbrev ms2 (t : Fin cfg0.N) : Memref sig .tc .vmem S39x8x128 .f32 := win0_2.stage (cfg0.slots t 2)
abbrev ms3 (t : Fin cfg0.N) : Memref sig .tc .vmem S8x128 .f32 := win0_3.stage (cfg0.slots t 3)
abbrev ms4 (t : Fin cfg0.N) : Memref sig .tc .vmem S741x8x128 .f32 := win0_4.stage (cfg0.slots t 4)
/-- The weights' scratch buffer. -/
abbrev scr : Memref sig .tc .vmem S39x8x128 .f32 := Memref.whole cc0_scratch0

/-- Between steps the kernel holds its scratch buffer and the generator's register, at any contents. -/
theorem phi_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- What a step leaves in each window: the inputs as they were, the scores, the pairs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => logits (iblk m c 0 t) (iblk m c 1 t) (iblk m c 2 t)
    | ⟨4, _⟩ => pairs (iblk m c 1 t) (weights (iblk m c 1 t) (iblk m c 2 t))
  Φ _ := Pipeline.ΦA spec0 c
  q _ := fullShare
  owed _ := 0

/-- The arrays are found as the program was given them. -/
theorem A_eq (c : Dev nD) (w : Fin cfg0.W) : (dats m 0 c).A w = V m c (Pipeline.arrRef spec0 w) := by
  dsimp only [dats]

/-- A step leaves the inputs' blocks in place. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
/-- A step leaves the scores of its rows in the first result's block. -/
theorem after_3 (c : Dev nD) (t : Fin cfg0.N) :
    (dats m 0 c).after 3 t = logits (iblk m c 0 t) (iblk m c 1 t) (iblk m c 2 t) := by dsimp only [dats]
/-- A step leaves the pairs of its rows in the second result's block. -/
theorem after_4 (c : Dev nD) (t : Fin cfg0.N) :
    (dats m 0 c).after 4 t = pairs (iblk m c 1 t) (weights (iblk m c 1 t) (iblk m c 2 t)) := by dsimp only [dats]

/-- A step finds each input's block in its staging buffer. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## One step -/

/-- What a step is called with. -/
def stepPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What a step returns. -/
def stepPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- Every step keeps what it is called with and returns the scores and pairs of its rows. -/
theorem step (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, phi_eq]
  iintro ⟨⟨HS0, Hg⟩, Ho, ⟨%d0, H0⟩, ⟨%d1, H1⟩, ⟨%d2, H2⟩, ⟨%d3, H3⟩, ⟨%d4, H4⟩⟩
  iapply (body c (grid0.coords t) _ _ _ _ _ _ _ _ _ _ _ _ (iblk m c 0 t) (iblk m c 1 t) (iblk m c 2 t)
    ((dats m 0 c).before 4 t d4) Set.univ _)
  isplitl [H0]; · iexact H0
  isplitl [H1]; · iexact H1
  isplitl [H2]; · iexact H2
  isplitl [H3]; · iexists _; iexact H3
  isplitl [H4]; · iexact H4
  isplitl [HS0]; · iexact HS0
  iintro ⟨H0, H1, H2, H3, H4, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  iexact H4

/-- The program's body at step `t` is the kernel at that step's buffers. -/
theorem row (t : Fin cfg0.N) :
    defs₀ (F := F) .tc cfg0.body (cfg0.bodyArgs t (cfg0.slots t)) = bodyAt0 t := by
  unfold defs₀; rw [Defs.onTc_tc]

/-- Every step does what the pipeline asks of it. -/
theorem obligation (c : Dev nD) : BodyObligation (dats (F := F) m 0 c) (defs₀ (F := F)) Variants.none () Set.univ := fun t => by
  rw [bigSep_W0, bigSep_W0, row]
  exact triple_restated (step m c t) rfl .rfl fun _ => .rfl

/-! ## The run -/

set_option backward.isDefEq.respectTransparency.types false in
/-- The program ends, with every array at what the steps wrote and every semaphore at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The program ends with every array at what the steps wrote. -/
theorem run : θ_run defs (onTc (τ := τ) (main (F := F))) (s₀ m ρ) (Pipeline.FramePost cfgs (dats m) 0 (V m)) :=
  (θ_run defs _ _).mono (fun _ h => h.1) (run_quiescent m ρ)

/-- The program leaves its arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run m ρ)

/-- The program leaves its arguments as they were and every semaphore at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.KernelIdeal.Own

end
-- ==== Proof.Value.lean ====
/- What the kernel computes, on the extended reals: its two result arrays are the problem's scores and pairs. -/
module

public import proofs.«01_k».proof.Proof.Spec
public import proofs.«01_k».proof.Proof.Run
public import Idealize.ShloMosaic.Lib.Pointwise
public import Idealize.ShloMosaic.Lib.BitcastPair
public import Idealize.ShloMosaic.Lib.Pipeline.ValueKit

@[expose] public section

set_option maxRecDepth 8192

noncomputable section

namespace Cert.KernelIdeal.Own

open Cert.KernelIdeal Cert.KernelIdeal.Gen
open Idealize.ShloMosaic Idealize.ShloMosaic.TcCoe
open Idealize.SL.Sem
open Cert.Words Cert.Spec

/-! ## One block -/

/-- A block of words read as bf16: row `2q + h` is half `h` of word row `q`. -/
theorem halves (x : IVec S8x128 32) (i : Fin 16) (l : Fin 128) (q : Fin 8) (h : ℕ) (hq : i.val = 2 * q.val + h) (hh : h < 2) :
    bitcast S16x128 16 x bitcasts_S8x128_w32_S16x128_w16 (ix2 i l) = (x (ix2 q l)).extractLsb' (16 * h) 16 := by
  rw [bitcast_32_16]
  have hrow : S16x128.row (ix2 i l) = i.val := rfl
  refine congrArg₂ (fun (s : ℕ) (w : BitVec 32) => w.extractLsb' s 16)
    (show 16 * (S16x128.row (ix2 i l) % 2) = 16 * h by rw [hrow]; omega) (congrArg x ?_)
  funext a
  match a with
  | ⟨0, _⟩ => exact Fin.ext (show S16x128.row (ix2 i l) / 2 = q.val by rw [hrow]; omega)
  | ⟨1, _⟩ => rfl

/-- The even rows are the words' low halves. -/
theorem halves_even (x : IVec S8x128 32) (q : Fin 8) (l : Fin 128) (h : 2 * q.val < 16) :
    bitcast S16x128 16 x bitcasts_S8x128_w32_S16x128_w16 (ix2 ⟨2 * q.val, h⟩ l) = (x (ix2 q l)).extractLsb' (16 * 0) 16 :=
  halves x _ l q 0 rfl (by decide)

/-- The odd rows are the words' high halves. -/
theorem halves_odd (x : IVec S8x128 32) (q : Fin 8) (l : Fin 128) (h : 2 * q.val + 1 < 16) :
    bitcast S16x128 16 x bitcasts_S8x128_w32_S16x128_w16 (ix2 ⟨2 * q.val + 1, h⟩ l) = (x (ix2 q l)).extractLsb' (16 * 1) 16 :=
  halves x _ l q 1 rfl (by decide)

/-- A vector shift of a word by 4, 8 or 12 is a shift. -/
theorem shr4 (w : BitVec 32) : IntOp.shrui .vector w 4#32 = w >>> 4 := rfl
theorem shr8 (w : BitVec 32) : IntOp.shrui .vector w 8#32 = w >>> 8 := rfl
theorem shr12 (w : BitVec 32) : IntOp.shrui .vector w 12#32 = w >>> 12 := rfl

/-- One pair at an element of a block: the dot product of the two words' codes, times the two weights. -/
theorem pairVal_apply (a b : Vec Ideal S1x1x8x128 .i32) (wf : FVec Ideal S8x128 .f32) (wg : Vec Ideal S1x8x128 .f32) (r : Fin 8) (l : Fin 128) :
    pairVal (F := Ideal) a b wf wg (ix2 r l)
      = (((rdot (a (ix4 0 0 r l)) (b (ix4 0 0 r l)) 8).toInt : ℝ) : EReal) * wf (ix2 r l) * wg (ix3 0 r l) := by
  rw [← dot_eq]
  unfold pairVal k0_pay11 k0_pay12 k0_pay10 k0_pay9 k0_pay8 k0_pay7 k0_pay6 k0_pay5 k0_pay4
  pointwise
  simp only [halves_even, halves_odd]
  pointwise
  simp only [shr4, shr8, shr12]
  rfl

/-- The words of a pair's field, at an element of a block. -/
theorem wordRow_apply (x1 : Vec Ideal S39x40x8x128 .i32) (f g : ℕ) (r : Fin 8) (l : Fin 128) :
    wordRow (F := Ideal) x1 f g (ix4 0 0 r l) = x1 (ix4 (fi f) (ci g) r l) := by
  exact congrArg x1 (ix4_eq_valueIdx (fi f) (ci g) r l).symm

/-- A field's row, at an element of a block. -/
theorem fieldRow_apply (W : Vec Ideal S39x8x128 .f32) (f : ℕ) (r : Fin 8) (l : Fin 128) :
    fieldRow (F := Ideal) W f (ix3 0 r l) = W (ix3 (fi f) r l) := by
  exact congrArg W (ix3_eq_valueIdx (fi f) r l).symm

/-- A field's weight, at an element of a block. -/
theorem weightAt_apply (x1 : Vec Ideal S39x40x8x128 .i32) (x2 : Vec Ideal S39x8x128 .f32) (f : ℕ) (r : Fin 8) (l : Fin 128) :
    weightAt (F := Ideal) x1 x2 f (ix2 r l) = x2 (ix3 (fi f) r l) * Ideal.ofBits .f32 (x1 (ix4 (fi f) (ci 39) r l)) := by
  unfold weightAt
  pointwise
  rw [wordRow_apply, fieldRow_apply]

/-- The weights' block at an element. -/
theorem weights_apply (x1 : Vec Ideal S39x40x8x128 .i32) (x2 : Vec Ideal S39x8x128 .f32) (f : ℕ) (r : Fin 8) (l : Fin 128) :
    weights (F := Ideal) x1 x2 (ix3 (fi f) r l) = x2 (ix3 (fi f) r l) * Ideal.ofBits .f32 (x1 (ix4 (fi f) (ci 39) r l)) := by
  show weightAt (F := Ideal) x1 x2 (fi f).val (ValueIdx.ix2 r l) = _
  rw [← ix2_eq_valueIdx]
  refine (weightAt_apply x1 x2 (fi f).val r l).trans ?_
  rw [show fi (fi f).val = fi f from Fin.ext (Nat.mod_mod _ _)]

/-- A field's linear term, at an element of a block. -/
theorem linAt_apply (x1 : Vec Ideal S39x40x8x128 .i32) (x2 : Vec Ideal S39x8x128 .f32) (f : ℕ) (r : Fin 8) (l : Fin 128) :
    linAt (F := Ideal) x1 x2 f (ix2 r l) = Ideal.ofBits .f32 (x1 (ix4 (fi f) (ci f) r l)) * x2 (ix3 (fi f) r l) := by
  unfold linAt
  pointwise
  rw [wordRow_apply, fieldRow_apply]

/-- Pair `p`, at an element of a block. -/
theorem pairAt_apply (x1 : Vec Ideal S39x40x8x128 .i32) (x2 : Vec Ideal S39x8x128 .f32) (p : ℕ) (r : Fin 8) (l : Fin 128) :
    pairAt (F := Ideal) x1 (weights x1 x2) p (ix2 r l)
      = (((rdot (x1 (ix4 (fi (pf p)) (ci (pg p)) r l)) (x1 (ix4 (fi (pg p)) (ci (pf p)) r l)) 8).toInt : ℝ) : EReal)
        * (x2 (ix3 (fi (pf p)) r l) * Ideal.ofBits .f32 (x1 (ix4 (fi (pf p)) (ci 39) r l)))
        * (x2 (ix3 (fi (pg p)) r l) * Ideal.ofBits .f32 (x1 (ix4 (fi (pg p)) (ci 39) r l))) := by
  unfold pairAt
  rw [pairVal_apply, wordRow_apply, wordRow_apply, fieldRow_apply, weights_apply]
  unfold fieldVec
  pointwise
  rw [fieldRow_apply, weights_apply]

variable (words : SW.Idx → BitVec 32) (x : SX.Idx → EReal)
  (x1 : Vec Ideal S39x40x8x128 .i32) (x2 : Vec Ideal S39x8x128 .f32) (r : Fin 8) (l : Fin 128) (R : Fin 192)
  (h1 : ∀ f g, x1 (ix4 f g r l) = words (ix4 f g R l)) (h2 : ∀ f, x2 (ix3 f r l) = x (ix3 f R l))

include h1 h2 in
/-- Pair `p` in a block that holds rows of the arrays is the problem's pair at those rows. -/
theorem pairAt_spec (p : ℕ) : pairAt (F := Ideal) x1 (weights x1 x2) p (ix2 r l) = pair words x p R l := by
  rw [pairAt_apply, h1, h1, h1, h1, h2, h2]; rfl

include h1 h2 in
/-- The sum of the pairs in such a block is the sum of the problem's pairs. -/
theorem accUpto_spec (n : ℕ) :
    accUpto (F := Ideal) x1 (weights x1 x2) n (ix2 r l) = ∑ p : Fin n, pair words x p R l := by
  refine iter_eq_sum (fun p => pair words x p R l) (fun n => accUpto (F := Ideal) x1 (weights x1 x2) n (ix2 r l)) ?_ (fun n => ?_) n
  · show accUpto (F := Ideal) x1 (weights x1 x2) 0 (ix2 r l) = 0
    unfold accUpto k0_pay413; pointwise
  · show addf (accUpto (F := Ideal) x1 (weights x1 x2) n) (pairAt x1 (weights x1 x2) n) (ix2 r l) = _
    rw [← pairAt_spec words x x1 x2 r l R h1 h2]; pointwise

include h1 h2 in
/-- The sum of the linear terms in such a block is the sum of the problem's linear terms. -/
theorem linUpto_spec (n : ℕ) :
    linUpto (F := Ideal) x1 x2 n (ix2 r l) = ∑ f : Fin n, lin words x f R l := by
  refine iter_eq_sum (fun f => lin words x f R l) (fun n => linUpto (F := Ideal) x1 x2 n (ix2 r l)) ?_ (fun n => ?_) n
  · show linUpto (F := Ideal) x1 x2 0 (ix2 r l) = 0
    unfold linUpto k0_pay413; pointwise
  · show addf (linUpto (F := Ideal) x1 x2 n) (linAt x1 x2 n) (ix2 r l) = _
    have e : linAt (F := Ideal) x1 x2 n (ix2 r l) = lin words x n R l := by rw [linAt_apply, h1, h2]; rfl
    pointwise
    rw [e]

include h1 h2 in
/-- The scores of such a block are the problem's scores at those rows. -/
theorem logits_spec (x0 : Vec Ideal S1 .f32) :
    logits (F := Ideal) x0 x1 x2 (ix2 r l) = logit words x (x0 (ix1 0)) R l := by
  unfold logits logit
  rw [← accUpto_spec words x x1 x2 r l R h1 h2 741, ← linUpto_spec words x x1 x2 r l R h1 h2 39, ix1_eq_valueIdx]
  pointwise

/-! ## The arrays -/

variable (m : (ℓ : Loc nD τ sig) → Buf (Elt Ideal) ℓ)

/-- The bias, the words and the fields' values as the program is given them. -/
abbrev inBias (c : Dev nD) : EReal := (m ((c : Thread nD τ).loc main_arg0) : S1.Idx → EReal) (ix1 0)
abbrev inWords (c : Dev nD) : SW.Idx → BitVec 32 := m ((c : Thread nD τ).loc main_arg1)
abbrev inX (c : Dev nD) : SX.Idx → EReal := m ((c : Thread nD τ).loc main_arg2)

/-- The scores as an array. -/
def LOGIT (c : Dev nD) : Buf (Elt Ideal) ((c : Thread nD τ).loc main_v0_0) :=
  fun i : S192x128.Idx => logit (inWords m c) (inX m c) (inBias m c) (i 0) (i 1)
/-- The pairs as an array. -/
def PAIR (c : Dev nD) : Buf (Elt Ideal) ((c : Thread nD τ).loc main_v0_1) :=
  fun i : S741x192x128.Idx => pair (inWords m c) (inX m c) (i 0).val (i 1) (i 2)

/-- Each window's block at a step, by the step's number. -/
theorem idx : ∀ t : Fin cfg0.N, win0_0.index t = ![0] ∧ win0_1.index t = ![0, 0, t.val, 0] ∧ win0_2.index t = ![0, t.val, 0]
    ∧ win0_3.index t = ![t.val, 0] ∧ win0_4.index t = ![0, t.val, 0] :=
  (by decide +kernel : ∀ t : Fin grid0.N, _)

/-- The array row of row `r` of step `t`. -/
def rowOf (t : Fin cfg0.N) (r : Fin 8) : Fin 192 := ⟨8 * t.val + r.val, by
  have h : t.val < 24 := t.isLt
  omega⟩

/-- A step's bias is the program's. -/
theorem iblk_bias (c : Dev nD) (t : Fin cfg0.N) : (iblk m c 0 t : S1.Idx → EReal) (ix1 0) = inBias m c := by
  blk_ext [iblk, V, idx t]

/-- A step's words are the program's at its rows. -/
theorem iblk_words (c : Dev nD) (t : Fin cfg0.N) (f : Fin 39) (g : Fin 40) (r : Fin 8) (l : Fin 128) :
    (iblk m c 1 t : S39x40x8x128.Idx → BitVec 32) (ix4 f g r l) = inWords m c (ix4 f g (rowOf t r) l) := by
  blk_ext [iblk, V, idx t, rowOf]

/-- A step's field values are the program's at its rows. -/
theorem iblk_x (c : Dev nD) (t : Fin cfg0.N) (f : Fin 39) (r : Fin 8) (l : Fin 128) :
    (iblk m c 2 t : S39x8x128.Idx → EReal) (ix3 f r l) = inX m c (ix3 f (rowOf t r) l) := by
  blk_ext [iblk, V, idx t, rowOf]

/-- The first result array ends as the scores. -/
theorem final_logit (c : Dev nD) : (dats m 0 c).arrAt 3 cfg0.N = LOGIT m c := by
  refine (dats m 0 c).arrAt_eq_of_covers 3 _ (by decide +kernel) fun t hf y => ?_
  blk_simp
  rw [after_3]
  have hy : y = ix2 (n0 := 8) (n1 := 128) (y 0) (y 1) := by funext a; match a with | ⟨0, _⟩ => rfl | ⟨1, _⟩ => rfl
  have he : (win0_3.blk t).view.emb y = ix2 (rowOf t (y 0)) (y 1) := by blk_ext [idx t, rowOf]
  rw [he, hy]
  refine (logits_spec (inWords m c) (inX m c) (iblk m c 1 t) (iblk m c 2 t) (y 0) (y 1) (rowOf t (y 0))
    (fun f g => iblk_words m c t f g _ _) (fun f => iblk_x m c t f _ _) (iblk m c 0 t)).trans ?_
  rw [iblk_bias]
  rfl

/-- The second result array ends as the pairs. -/
theorem final_pair (c : Dev nD) : (dats m 0 c).arrAt 4 cfg0.N = PAIR m c := by
  refine (dats m 0 c).arrAt_eq_of_covers 4 _ (by decide +kernel) fun t hf y => ?_
  blk_simp
  rw [after_4]
  have he : (win0_4.blk t).view.emb y = ix3 (y 0) (rowOf t (y 1)) (y 2) := by blk_ext [idx t, rowOf]
  rw [he]
  refine (congrArg (pairAt (F := Ideal) (iblk m c 1 t) (weights (iblk m c 1 t) (iblk m c 2 t)) (y 0).val)
    (ix2_eq_valueIdx (n0 := 8) (n1 := 128) (y 1) (y 2)).symm).trans ?_
  exact pairAt_spec (inWords m c) (inX m c) (iblk m c 1 t) (iblk m c 2 t) (y 1) (y 2) (rowOf t (y 1))
    (fun f g => iblk_words m c t f g _ _) (fun f => iblk_x m c t f _ _) (y 0).val

end Cert.KernelIdeal.Own

end
-- ==== Proof.Ref.lean ====
/- What the reference computes, on the extended reals: its two results are the problem's scores and pairs. -/
module

public import proofs.«01_k».proof.Proof.Spec
public import proofs.«01_k».proof.Proof.Gen.ReferenceIdeal
public import proofs.«01_k».proof.Proof.Gen.ReferenceIdeal.Run
public import Idealize.ShloMosaic.Lib.Pointwise

@[expose] public section

set_option maxRecDepth 8192

noncomputable section

namespace Cert.ReferenceIdeal.Own

open Cert.ReferenceIdeal Cert.ReferenceIdeal.Gen
open Cert.ReferenceIdeal.Value
open Idealize.ShloMosaic Idealize.ShloMosaic.TcCoe Idealize.ShloMosaic.StableHlo
open Idealize.SL.Sem
open Cert.Words Cert.Spec
open Cert.KernelIdeal.Own (pf pg pf_lt_pg)

/-! ## Reading the gathers -/

/-- Rows taken from a stack of row blocks at pairs of positions. -/
abbrev pairDims (N : ℕ) (wf : GatherDims.WF S39x40x192x128 ⟨2, ![N, 2]⟩ ⟨3, ![N, 192, 128]⟩ [1, 2] [0, 1] [] [0, 1] [] 1 ![1, 1, 192, 128]) :
    GatherDims S39x40x192x128 ⟨2, ![N, 2]⟩ ⟨3, ![N, 192, 128]⟩ where
  offsetDims := [1, 2]
  collapsedSliceDims := [0, 1]
  operandBatchingDims := []
  startIndicesBatchingDims := []
  startIndexMap := [0, 1]
  indexVectorDim := 1
  sliceSizes := ![1, 1, 192, 128]
  wf := wf

/-- Such a gather at an index: the operand at the two positions named, each clamped to its axis. -/
theorem gather_pair_apply {α : Type} (N : ℕ) (wf) (x : S39x40x192x128.Idx → α) (idx : IVec ⟨2, ![N, 2]⟩ 32) (n : Fin N) (r : Fin 192) (l : Fin 128) :
    Host.gather (pairDims N wf) x idx (ix3 n r l)
      = x (ix4 ⟨min (idx (ix2 n 0)).toInt.toNat 38, by omega⟩ ⟨min (idx (ix2 n 1)).toInt.toNat 39, by omega⟩ r l) := by
  unfold Host.gather
  congr 1
  funext a
  refine Fin.ext ?_
  show (pairDims N wf).start (ix3 n r l) idx a + (pairDims N wf).batchCoord (ix3 n r l) a + (pairDims N wf).offCoord (ix3 n r l) a = _
  rw [GatherDims.batchCoord_eq_zero _ _ _ List.not_mem_nil]
  match a with
  | ⟨0, _⟩ =>
    rw [GatherDims.offCoord_eq_zero _ _ _ (fun h => ((GatherDims.mem_sKept _ _).mp h).1 (show (0 : Fin 4) ∈ ([0, 1] : List (Fin 4)) by decide))]
    unfold GatherDims.start
    rw [dif_pos (show (⟨0, by decide⟩ : Fin S39x40x192x128.rank) ∈ (pairDims N wf).startIndexMap from (by decide : (0 : Fin _) ∈ ([0, 1] : List (Fin 4))))]
    have hsi : (pairDims N wf).siIdx (ix3 n r l) ⟨0, Nat.zero_lt_two⟩ = ix2 n 0 := by
      funext b; match b with | ⟨0, _⟩ => rfl | ⟨1, _⟩ => rfl
    exact congrArg (fun i => min (idx i).toInt.toNat 38) hsi
  | ⟨1, _⟩ =>
    rw [GatherDims.offCoord_eq_zero _ _ _ (fun h => ((GatherDims.mem_sKept _ _).mp h).1 (show (1 : Fin 4) ∈ ([0, 1] : List (Fin 4)) by decide))]
    unfold GatherDims.start
    rw [dif_pos (show (⟨1, by decide⟩ : Fin S39x40x192x128.rank) ∈ (pairDims N wf).startIndexMap from (by decide : (1 : Fin _) ∈ ([0, 1] : List (Fin 4))))]
    have hsi : (pairDims N wf).siIdx (ix3 n r l) ⟨1, Nat.one_lt_two⟩ = ix2 n 1 := by
      funext b; match b with | ⟨0, _⟩ => rfl | ⟨1, _⟩ => rfl
    exact congrArg (fun i => min (idx i).toInt.toNat 39) hsi
  | ⟨2, _⟩ => unfold GatherDims.start; rw [dif_neg (show (⟨2, by decide⟩ : Fin S39x40x192x128.rank) ∉ (pairDims N wf).startIndexMap from (by decide : (2 : Fin _) ∉ ([0, 1] : List (Fin 4))))]; exact Nat.zero_add _
  | ⟨3, _⟩ => unfold GatherDims.start; rw [dif_neg (show (⟨3, by decide⟩ : Fin S39x40x192x128.rank) ∉ (pairDims N wf).startIndexMap from (by decide : (3 : Fin _) ∉ ([0, 1] : List (Fin 4))))]; exact Nat.zero_add _

/-- A gather of the fields' rows at an index: the row of the field named, clamped to the axis. -/
theorem gather_row_apply {α : Type} (x : S39x192x128.Idx → α) (idx : IVec S741x1 32) (n : Fin 741) (r : Fin 192) (l : Fin 128) :
    Host.gather gather_S39x192x128_S741x1_S741x192x128_12_0_n_n_0_1_1192128 x idx (ix3 n r l)
      = x (ix3 ⟨min (idx (ix2 n 0)).toInt.toNat 38, by omega⟩ r l) := by
  unfold Host.gather
  congr 1
  funext a
  refine Fin.ext ?_
  show GatherDims.start _ (ix3 n r l) idx a + GatherDims.batchCoord _ (ix3 n r l) a + GatherDims.offCoord _ (ix3 n r l) a = _
  rw [GatherDims.batchCoord_eq_zero _ _ _ List.not_mem_nil]
  match a with
  | ⟨0, _⟩ =>
    rw [GatherDims.offCoord_eq_zero _ _ _ (fun h => ((GatherDims.mem_sKept _ _).mp h).1 (show (0 : Fin 3) ∈ ([0] : List (Fin 3)) by decide))]
    unfold GatherDims.start
    rw [dif_pos (show (⟨0, by decide⟩ : Fin S39x192x128.rank) ∈ gather_S39x192x128_S741x1_S741x192x128_12_0_n_n_0_1_1192128.startIndexMap from (by decide : (0 : Fin _) ∈ ([0] : List (Fin 3))))]
    have hsi : gather_S39x192x128_S741x1_S741x192x128_12_0_n_n_0_1_1192128.siIdx (ix3 n r l) ⟨0, Nat.one_pos⟩ = ix2 n 0 := by
      funext b; match b with | ⟨0, _⟩ => rfl | ⟨1, _⟩ => rfl
    exact congrArg (fun i => min (idx i).toInt.toNat 38) hsi
  | ⟨1, _⟩ => unfold GatherDims.start; rw [dif_neg (show (⟨1, by decide⟩ : Fin S39x192x128.rank) ∉ gather_S39x192x128_S741x1_S741x192x128_12_0_n_n_0_1_1192128.startIndexMap from (by decide : (1 : Fin _) ∉ ([0] : List (Fin 3))))]; exact Nat.zero_add _
  | ⟨2, _⟩ => unfold GatherDims.start; rw [dif_neg (show (⟨2, by decide⟩ : Fin S39x192x128.rank) ∉ gather_S39x192x128_S741x1_S741x192x128_12_0_n_n_0_1_1192128.startIndexMap from (by decide : (2 : Fin _) ∉ ([0] : List (Fin 3))))]; exact Nat.zero_add _

/-! ## The index tables -/

/-- The fields' table counts up. -/
theorem lit0_eq : ∀ f : Fin 39, (lit0 f).toInt.toNat = f.val := by decide +kernel
/-- The first fields of the pairs. -/
theorem lit1_eq : ∀ p : Fin 741, (lit1 p).toInt.toNat = pf p.val := by decide +kernel
/-- The second fields of the pairs. -/
theorem lit2_eq : ∀ p : Fin 741, (lit2 p).toInt.toNat = pg p.val := by decide +kernel

variable (V : Valuation τ sig (Elt Ideal))

/-- The arguments, as arrays. -/
abbrev rBias : EReal := (V (Proc.devRef .tc main_arg0) : S1.Idx → EReal) (ix1 0)
abbrev rWords : SW.Idx → BitVec 32 := V (Proc.devRef .tc main_arg1)
abbrev rX : SX.Idx → EReal := V (Proc.devRef .tc main_arg2)

theorem c0_apply (f : Fin 39) : (res_main_c V : S39.Idx → BitVec 32) (ix1 f) = lit0 f := by
  have e : S39.rowMajor (ix1 f) = f := Fin.ext (Shape.rowMajor_val_one _)
  exact congrArg lit0 e
theorem c2_apply (p : Fin 741) : (res_main_c_2 V : S741.Idx → BitVec 32) (ix1 p) = lit1 p := by
  have e : S741.rowMajor (ix1 p) = p := Fin.ext (Shape.rowMajor_val_one _)
  exact congrArg lit1 e
theorem c4_apply (p : Fin 741) : (res_main_c_4 V : S741.Idx → BitVec 32) (ix1 p) = lit2 p := by
  have e : S741.rowMajor (ix1 p) = p := Fin.ext (Shape.rowMajor_val_one _)
  exact congrArg lit2 e

/-- The words of each pair's first field. -/
theorem v23_apply (p : Fin 741) (r : Fin 192) (l : Fin 128) :
    (res_main_v23 V : S741x192x128.Idx → BitVec 32) (ix3 p r l) = rWords V (ix4 (fi (pf p.val)) (ci (pg p.val)) r l) := by
  have hb := pf_lt_pg p.val p.isLt
  refine (gather_pair_apply 741 _ _ _ p r l).trans ?_
  refine congrArg (rWords V) ?_
  have e0 : ∀ a b : Fin 39, a.val = b.val → a = b := fun a b => Fin.ext
  have e1 : ∀ a b : Fin 40, a.val = b.val → a = b := fun a b => Fin.ext
  congr 1
  · refine Fin.ext ?_
    pointwise
    rw [c2_apply, lit1_eq]
    show min (pf p.val) 38 = pf p.val % 39
    omega
  · refine Fin.ext ?_
    pointwise
    rw [c4_apply, lit2_eq]
    show min (pg p.val) 39 = pg p.val % 40
    omega

/-- The words of each pair's second field. -/
theorem v33_apply (p : Fin 741) (r : Fin 192) (l : Fin 128) :
    (res_main_v33 V : S741x192x128.Idx → BitVec 32) (ix3 p r l) = rWords V (ix4 (fi (pg p.val)) (ci (pf p.val)) r l) := by
  have hb := pf_lt_pg p.val p.isLt
  refine (gather_pair_apply 741 _ _ _ p r l).trans ?_
  refine congrArg (rWords V) ?_
  congr 1
  · refine Fin.ext ?_
    pointwise
    rw [c4_apply, lit2_eq]
    show min (pg p.val) 38 = pg p.val % 39
    omega
  · refine Fin.ext ?_
    pointwise
    rw [c2_apply, lit1_eq]
    show min (pf p.val) 39 = pf p.val % 40
    omega

/-- A code of a word as the reference reads it: a shift, a mask, and sixteen less from eight on. -/
theorem ref_code (w s : BitVec 32) (k : ℕ) (hs : IntOp.shrsi .host w s = w.sshiftRight (4 * k)) :
    Scalar.select (IntOp.cmpi .sge (IntOp.andi (IntOp.shrsi .host w s) 15#32) 8#32)
      (IntOp.subi (IntOp.andi (IntOp.shrsi .host w s) 15#32) 16#32) (IntOp.andi (IntOp.shrsi .host w s) 15#32) = rcode w k := by
  rw [hs]
  unfold rcode Scalar.select IntOp.cmpi
  show (if BitVec.ofBool ((8#32).sle (w.sshiftRight (4 * k) &&& 15#32)) = 1#1 then _ else _) = _
  cases (8#32).sle (w.sshiftRight (4 * k) &&& 15#32) <;> rfl

/-- The integer dot product of each pair's codes. -/
theorem v194_apply (p : Fin 741) (r : Fin 192) (l : Fin 128) :
    (res_main_v194 V : S741x192x128.Idx → BitVec 32) (ix3 p r l)
      = rdot (rWords V (ix4 (fi (pf p.val)) (ci (pg p.val)) r l)) (rWords V (ix4 (fi (pg p.val)) (ci (pf p.val)) r l)) 8 := by
  rw [← v23_apply, ← v33_apply]
  unfold res_main_v194 res_main_v38 res_main_v42 res_main_v58 res_main_v62 res_main_v78 res_main_v82 res_main_v98 res_main_v102
    res_main_v118 res_main_v122 res_main_v138 res_main_v142 res_main_v158 res_main_v162 res_main_v178 res_main_v182
  pointwise
  simp only [ref_code _ 0#32 0 rfl, ref_code _ 4#32 1 rfl, ref_code _ 8#32 2 rfl, ref_code _ 12#32 3 rfl,
    ref_code _ 16#32 4 rfl, ref_code _ 20#32 5 rfl, ref_code _ 24#32 6 rfl, ref_code _ 28#32 7 rfl]
  rfl

/-- The fields' weights. -/
theorem v196_apply (f : Fin 39) (r : Fin 192) (l : Fin 128) :
    (res_main_v196 V : S39x192x128.Idx → EReal) (ix3 f r l) = rX V (ix3 f r l) * Ideal.ofBits .f32 (rWords V (ix4 f 39 r l)) := by
  unfold res_main_v196
  pointwise

/-- The pairs' result, as the reference's operations compose it. -/
abbrev pairTerm : S741x192x128.Idx → EReal :=
  mulf (F := Ideal) (φ := .f32) (mulf (sitofp .f32 (res_main_v194 V)) (Host.gather gather_S39x192x128_S741x1_S741x192x128_12_0_n_n_0_1_1192128 (res_main_v196 V) (broadcastInDim S741x1 ![0] bcast_S741_S741x1_0 (Idealize.ShloMosaic.select (constantI S741 1 0#1) (addi (res_main_c_2 V) (broadcastInDim S741 ![] bcast_S_S741 (constantI S_ 32 39#32))) (res_main_c_2 V))))) (Host.gather gather_S39x192x128_S741x1_S741x192x128_12_0_n_n_0_1_1192128 (res_main_v196 V) (broadcastInDim S741x1 ![0] bcast_S741_S741x1_0 (Idealize.ShloMosaic.select (constantI S741 1 0#1) (addi (res_main_c_4 V) (broadcastInDim S741 ![] bcast_S_S741 (constantI S_ 32 39#32))) (res_main_c_4 V))))

/-- The row each pair's first gather starts at. -/
theorem start2 (p : Fin 741) :
    broadcastInDim S741x1 ![0] bcast_S741_S741x1_0 (Idealize.ShloMosaic.select (constantI S741 1 0#1) (addi (res_main_c_2 V) (broadcastInDim S741 ![] bcast_S_S741 (constantI S_ 32 39#32))) (res_main_c_2 V)) (ix2 p 0) = lit1 p := by
  refine Eq.trans ?_ (c2_apply V p)
  rfl

/-- The row each pair's second gather starts at. -/
theorem start4 (p : Fin 741) :
    broadcastInDim S741x1 ![0] bcast_S741_S741x1_0 (Idealize.ShloMosaic.select (constantI S741 1 0#1) (addi (res_main_c_4 V) (broadcastInDim S741 ![] bcast_S_S741 (constantI S_ 32 39#32))) (res_main_c_4 V)) (ix2 p 0) = lit2 p := by
  refine Eq.trans ?_ (c4_apply V p)
  rfl

/-- A start on the fields' axis, clamped, is the field. -/
theorem gather_row_at {α : Type} (x : S39x192x128.Idx → α) (idx : IVec S741x1 32) (p : Fin 741) (r : Fin 192) (l : Fin 128) (n : ℕ) (hn : n < 39)
    (h : (idx (ix2 p 0)).toInt.toNat = n) :
    Host.gather gather_S39x192x128_S741x1_S741x192x128_12_0_n_n_0_1_1192128 x idx (ix3 p r l) = x (ix3 (fi n) r l) := by
  rw [gather_row_apply]
  refine congrArg (fun a => x (ix3 a r l)) (Fin.ext ?_)
  show min (idx (ix2 p 0)).toInt.toNat 38 = n % 39
  omega

/-- The pairs' result is the problem's pairs. -/
theorem pairTerm_apply (p : Fin 741) (r : Fin 192) (l : Fin 128) :
    pairTerm V (ix3 p r l) = pair (rWords V) (rX V) p.val r l := by
  have hb := pf_lt_pg p.val p.isLt
  show (((res_main_v194 V : S741x192x128.Idx → BitVec 32) (ix3 p r l)).toInt : ℝ) * Host.gather (α := EReal) _ _ _ (ix3 p r l) * Host.gather (α := EReal) _ _ _ (ix3 p r l) = _
  rw [gather_row_at _ _ p r l (pf p.val) (by omega) (by rw [start2, lit1_eq]),
    gather_row_at _ _ p r l (pg p.val) (by omega) (by rw [start4, lit2_eq]), v194_apply, v196_apply, v196_apply]
  rfl

/-- The fields' linear terms, as the reference's operations compose them. -/
abbrev linTerm : S39x192x128.Idx → EReal :=
  mulf (F := Ideal) (φ := .f32) (bitcastToFloat (F := Ideal) .f32 (Host.gather gather_S39x40x192x128_S39x2_S39x192x128_12_01_n_n_01_1_11192128 (V (Proc.devRef .tc main_arg1)) (concatenate S39x2 1 [⟨S39x1, (broadcastInDim S39x1 ![0] bcast_S39_S39x1_0 (Idealize.ShloMosaic.select (constantI S39 1 0#1) (addi (res_main_c V) (broadcastInDim S39 ![] bcast_S_S39 (constantI S_ 32 39#32))) (res_main_c V)))⟩, ⟨S39x1, (broadcastInDim S39x1 ![0] bcast_S39_S39x1_0 (Idealize.ShloMosaic.select (constantI S39 1 0#1) (addi (res_main_c V) (broadcastInDim S39 ![] bcast_S_S39 (constantI S_ 32 40#32))) (res_main_c V)))⟩] concatenates_S39x1_S39x1_S39x2_d1))) (V (Proc.devRef .tc main_arg2))

/-- They are the problem's linear terms. -/
theorem linTerm_apply (f : Fin 39) (r : Fin 192) (l : Fin 128) :
    linTerm V (ix3 f r l) = lin (rWords V) (rX V) f.val r l := by
  unfold linTerm
  pointwise
  rw [show gather_S39x40x192x128_S39x2_S39x192x128_12_01_n_n_01_1_11192128 = pairDims 39 gather_S39x40x192x128_S39x2_S39x192x128_12_01_n_n_01_1_11192128_wf from rfl,
    gather_pair_apply]
  pointwise
  simp only [c0_apply, lit0_eq]
  have hf := f.isLt
  have e1 : ∀ h, (⟨min f.val 38, h⟩ : Fin 39) = fi f.val := fun h => Fin.ext (show min f.val 38 = f.val % 39 by omega)
  have e2 : ∀ h, (⟨min f.val 39, h⟩ : Fin 40) = ci f.val := fun h => Fin.ext (show min f.val 39 = f.val % 40 by omega)
  have e3 : fi f.val = f := Fin.ext (Nat.mod_eq_of_lt hf)
  simp only [e1, e2]
  unfold lin
  rw [e3]

/-- The scores' result, as the reference's operations compose it. -/
abbrev logitTerm : S192x128.Idx → EReal :=
  addf (F := Ideal) (φ := .f32) (addf (broadcastInDim S192x128 ![] bcast_S_S192x128 (shapeCast _ (V (Proc.devRef .tc main_arg0)) shapeCasts_S1_S_)) (Host.reduceAdd (linTerm V) (constant S_ .f32 0x00000000#32) reducesTo_S39x192x128_S192x128_d0 h_S_)) (Host.reduceAdd (pairTerm V) (constant S_ .f32 0x00000000#32) reducesTo_S741x192x128_S192x128_d0 h_S_)

/-- The scores' result is the problem's scores. -/
theorem logitTerm_apply (r : Fin 192) (l : Fin 128) :
    logitTerm V (ix2 r l) = logit (rWords V) (rX V) (rBias V) r l := by
  unfold logitTerm logit
  simp only [← pairTerm_apply, ← linTerm_apply]
  generalize pairTerm V = P
  generalize linTerm V = L
  pointwise

end Cert.ReferenceIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Value
public import proofs.«01_k».proof.Proof.Ref
public import Idealize.ShloMosaic.Lib.Bf16Pair
public import Idealize.ShloMosaic.Adequacy
public import Idealize.ShloMosaic.Init

@[expose] public section

set_option maxRecDepth 8192

noncomputable section

namespace Cert.Proof

open Idealize.ShloMosaic Idealize.ShloMosaic.TcCoe Idealize.ShloMosaic.StableHlo Idealize.SL.Sem
open Cert.Spec

/-- The reference leaves its arguments as they were; it has no semaphore. -/
theorem frame_reference : Cert.quiescent_ReferenceIdeal := by
  intro m ρ _
  exact (θ_run Cert.ReferenceIdeal.defs _ _).mono (fun r h => ⟨fun c => ⟨(h c).2.2.1, (h c).2.2.2.1, (h c).2.2.2.2⟩,
      Idealize.ShloMosaic.sem_eq_zero_of_no_sems (by decide) r.2⟩)
    (Cert.ReferenceIdeal.Value.run (F := Ideal) m ρ)

/-- The kernel's run: the two result arrays are the scores and the pairs of its arguments, which it leaves as they were. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = Cert.KernelIdeal.Own.LOGIT m c
          ∧ r.2.mem ((c.tc : Thread Cert.KernelIdeal.nD Cert.KernelIdeal.τ).loc Cert.KernelIdeal.main_v0_1) = Cert.KernelIdeal.Own.PAIR m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono
    (fun _ h c => ⟨(Pipeline.FramePost.out_eq h c 3).trans (Cert.KernelIdeal.Own.final_logit m c),
      (Pipeline.FramePost.out_eq h c 4).trans (Cert.KernelIdeal.Own.final_pair m c),
      Pipeline.FramePost.in_eq h c 0 rfl, Pipeline.FramePost.in_eq h c 1 rfl, Pipeline.FramePost.in_eq h c 2 rfl⟩)
    (Cert.KernelIdeal.Own.run (F := Ideal) m g)

/-- The reference's scores are the problem's, at the arguments of a memory that agrees with the kernel's. -/
theorem reference_logit (V : Valuation Cert.ReferenceIdeal.τ Cert.ReferenceIdeal.sig (Elt Ideal)) :
    Cert.ReferenceIdeal.Own.logitTerm V = fun i : Cert.ReferenceIdeal.S192x128.Idx =>
      logit (Cert.ReferenceIdeal.Own.rWords V) (Cert.ReferenceIdeal.Own.rX V) (Cert.ReferenceIdeal.Own.rBias V) (i 0) (i 1) := by
  funext i
  have e : i = ix2 (n0 := 192) (n1 := 128) (i 0) (i 1) := by funext a; match a with | ⟨0, _⟩ => rfl | ⟨1, _⟩ => rfl
  rw [e]
  exact Cert.ReferenceIdeal.Own.logitTerm_apply V _ _

/-- The reference's pairs are the problem's. -/
theorem reference_pair (V : Valuation Cert.ReferenceIdeal.τ Cert.ReferenceIdeal.sig (Elt Ideal)) :
    Cert.ReferenceIdeal.Own.pairTerm V = fun i : Cert.ReferenceIdeal.S741x192x128.Idx =>
      pair (Cert.ReferenceIdeal.Own.rWords V) (Cert.ReferenceIdeal.Own.rX V) (i 0).val (i 1) (i 2) := by
  funext i
  have e : i = ix3 (n0 := 741) (n1 := 192) (n2 := 128) (i 0) (i 1) (i 2) := by
    funext a; match a with | ⟨0, _⟩ => rfl | ⟨1, _⟩ => rfl | ⟨2, _⟩ => rfl
  rw [e]
  exact Cert.ReferenceIdeal.Own.pairTerm_apply V _ _ _

/-- On the extended reals the kernel's scores and pairs are the reference's. -/
theorem algebraic : Cert.algebraic_KernelIdeal_ReferenceIdeal := by
  intro m g m' g' _ hag
  refine ⟨Cert.KernelIdeal.Own.LOGIT m, Cert.KernelIdeal.Own.PAIR m, run_kernel m g, ?_⟩
  refine (θ_run Cert.ReferenceIdeal.defs _ _).mono (fun r h c => ⟨(h c).1.trans ?_, (h c).2.1.trans ?_, (h c).2.2⟩)
    (Cert.ReferenceIdeal.Value.run (F := Ideal) m' g')
  · refine (reference_logit (launchContents m' c)).trans ?_
    obtain ⟨h0, h1, h2⟩ := hag c
    have e0 : Cert.ReferenceIdeal.Own.rBias (launchContents m' c) = Cert.KernelIdeal.Own.inBias m c := congrFun h0 _
    have e1 : Cert.ReferenceIdeal.Own.rWords (launchContents m' c) = Cert.KernelIdeal.Own.inWords m c := h1
    have e2 : Cert.ReferenceIdeal.Own.rX (launchContents m' c) = Cert.KernelIdeal.Own.inX m c := h2
    rw [e0, e1, e2]
    rfl
  · refine (reference_pair (launchContents m' c)).trans ?_
    obtain ⟨h0, h1, h2⟩ := hag c
    have e1 : Cert.ReferenceIdeal.Own.rWords (launchContents m' c) = Cert.KernelIdeal.Own.inWords m c := h1
    have e2 : Cert.ReferenceIdeal.Own.rX (launchContents m' c) = Cert.KernelIdeal.Own.inX m c := h2
    rw [e1, e2]
    rfl

theorem claim : Cert.Claim := ⟨Cert.Kernel.Gen.facts, Cert.KernelIdeal.Gen.facts, Cert.ReferenceIdeal.Gen.facts,
  fun m ρ _ => Cert.Kernel.Own.frame_kernel m ρ, fun m ρ _ => Cert.KernelIdeal.Own.frame_ideal m ρ, frame_reference,
  IdealRules.bf16_pair.statement _ _ (by decide), algebraic⟩

end Cert.Proof

end
